-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "neg" .f32 0xCE6E6B28#32 ⊥

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S1x2048x1024 : Shape := ⟨3, ![1, 2048, 1024]⟩
abbrev S1024x1024 : Shape := ⟨2, ![1024, 1024]⟩
abbrev S1024 : Shape := ⟨1, ![1024]⟩
abbrev S1024x2048 : Shape := ⟨2, ![1024, 2048]⟩
abbrev S2048 : Shape := ⟨1, ![2048]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x2048 : S_.BroadcastsInDim S1024x2048 (![] : Fin 0 → Fin S1024x2048.rank)
  reducesTo_S1024x2048_S_d0_1 : S1024x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S1024x2048 .f32) (main_arg5 : FVec F S2048 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x2048 .f32 := Host.absf main_arg4
  let main_cst_6 : FVec F S_ .f32 := constant S_ .f32 0x7F800000#32
  let main_v20 : FVec F S1024x2048 .f32 := broadcastInDim S1024x2048 ![] bcast_S_S1024x2048 main_cst_6
  let main_v21 : IVec S1024x2048 1 := cmpf .olt main_v19 main_v20
  let main_c_7 : IVec S_ 1 := constantI S_ 1 1#1
  let main_v22 : IVec S_ 1 := (fun x v => Host.reduce IntOp.andi x v reducesTo_S1024x2048_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  main_v28

def fn {F : FTy → Type} [FloatOps F] (main_arg0 : FVec F S1x2048x1024 .f32) (main_arg1 : FVec F S1x2048x1024 .f32) (main_arg2 : FVec F S1024x1024 .f32) (main_arg3 : FVec F S1024 .f32) (main_arg4 : FVec F S1024x2048 .f32) (main_arg5 : FVec F S2048 .f32) (main_arg6 : FVec F S1024x1024 .f32) (main_arg7 : FVec F S1024 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1x2048x1024 .f32 := Host.absf main_arg1
  let main_cst_0 : FVec F S_ .f32 := constant S_ .f32 0x7F800000#32
  let main_v5 : FVec F S1x2048x1024 .f32 := broadcastInDim S1x2048x1024 ![] bcast_S_S1x2048x1024 main_cst_0
  let main_v6 : IVec S1x2048x1024 1 := cmpf .olt main_v4 main_v5
  let main_c_1 : IVec S_ 1 := constantI S_ 1 1#1
  let main_v7 : IVec S_ 1 := (fun x v => Host.reduce IntOp.andi x v reducesTo_S1x2048x1024_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_v13 main_v16
-- ==== Kernel.lean ====
abbrev S1x2048x1024 : Shape := ⟨3, ![1, 2048, 1024]⟩
abbrev S1024x1024 : Shape := ⟨2, ![1024, 1024]⟩
abbrev S1024 : Shape := ⟨1, ![1024]⟩
abbrev S1024x2048 : Shape := ⟨2, ![1024, 2048]⟩
abbrev S2048 : Shape := ⟨1, ![2048]⟩
abbrev S2048x1024 : Shape := ⟨2, ![2048, 1024]⟩
abbrev S1x1024 : Shape := ⟨2, ![1, 1024]⟩
abbrev S1x2048 : Shape := ⟨2, ![1, 2048]⟩
abbrev S192x1024 : Shape := ⟨2, ![192, 1024]⟩
abbrev S256x1024 : Shape := ⟨2, ![256, 1024]⟩
abbrev S2112x1024 : Shape := ⟨2, ![2112, 1024]⟩
abbrev S32x2112x64 : Shape := ⟨3, ![32, 2112, 64]⟩
abbrev S32x768x64 : Shape := ⟨3, ![32, 768, 64]⟩
abbrev S192x2048 : Shape := ⟨2, ![192, 2048]⟩
abbrev S192x32x64 : Shape := ⟨3, ![192, 32, 64]⟩
abbrev S32x192x64 : Shape := ⟨3, ![32, 192, 64]⟩
abbrev S64x1x1 : Shape := ⟨3, ![64, 1, 1]⟩
abbrev S64x3x32x64 : Shape := ⟨4, ![64, 3, 32, 64]⟩
abbrev S64x1x32x64 : Shape := ⟨4, ![64, 1, 32, 64]⟩
abbrev S64x32x64 : Shape := ⟨3, ![64, 32, 64]⟩
abbrev S32x64x64 : Shape := ⟨3, ![32, 64, 64]⟩
abbrev S256x128 : Shape := ⟨2, ![256, 128]⟩
abbrev S256x384 : Shape := ⟨2, ![256, 384]⟩
abbrev S256x64 : Shape := ⟨2, ![256, 64]⟩
abbrev S1x768x64 : Shape := ⟨3, ![1, 768, 64]⟩
abbrev S768x64 : Shape := ⟨2, ![768, 64]⟩
abbrev S256x768 : Shape := ⟨2, ![256, 768]⟩
abbrev S1x384x64 : Shape := ⟨3, ![1, 384, 64]⟩
abbrev S384x64 : Shape := ⟨2, ![384, 64]⟩
abbrev S256x640 : Shape := ⟨2, ![256, 640]⟩
abbrev S256x1152 : Shape := ⟨2, ![256, 1152]⟩
abbrev S256 : Shape := ⟨1, ![256]⟩
abbrev S256x1 : Shape := ⟨2, ![256, 1]⟩

abbrev nBuf : Space → Nat
  | .hbm => 15
  | .vmem => 18
  | .smem => 0
  | _ => 0

abbrev bufTy : (tb : Table) → Fin (tcTables nBuf tb) → BufTy
  | .hbm, ⟨0, _⟩ => ⟨S1x2048x1024, .f32⟩
  | .hbm, ⟨1, _⟩ => ⟨S1x2048x1024, .f32⟩
  | .hbm, ⟨2, _⟩ => ⟨S1024x1024, .f32⟩
  | .hbm, ⟨3, _⟩ => ⟨S1024, .f32⟩
  | .hbm, ⟨4, _⟩ => ⟨S1024x2048, .f32⟩
  | .hbm, ⟨5, _⟩ => ⟨S2048, .f32⟩
  | .hbm, ⟨6, _⟩ => ⟨S1024x1024, .f32⟩
  | .hbm, ⟨7, _⟩ => ⟨S1024, .f32⟩
  | .hbm, ⟨8, _⟩ => ⟨S2048x1024, .f32⟩
  | .hbm, ⟨9, _⟩ => ⟨S2048x1024, .f32⟩
  | .hbm, ⟨10, _⟩ => ⟨S1x1024, .f32⟩
  | .hbm, ⟨11, _⟩ => ⟨S1x2048, .f32⟩
  | .hbm, ⟨12, _⟩ => ⟨S1x1024, .f32⟩
  | .hbm, ⟨13, _⟩ => ⟨S2048x1024, .f32⟩
  | .hbm, ⟨14, _⟩ => ⟨S1x2048x1024, .f32⟩
  | .local _ .vmem, ⟨0, _⟩ => ⟨S192x1024, .f32⟩
  | .local _ .vmem, ⟨1, _⟩ => ⟨S192x1024, .f32⟩
  | .local _ .vmem, ⟨2, _⟩ => ⟨S192x1024, .f32⟩
  | .local _ .vmem, ⟨3, _⟩ => ⟨S192x1024, .f32⟩
  | .local _ .vmem, ⟨4, _⟩ => ⟨S1024x1024, .f32⟩
  | .local _ .vmem, ⟨5, _⟩ => ⟨S1x1024, .f32⟩
  | .local _ .vmem, ⟨6, _⟩ => ⟨S1024x2048, .f32⟩
  | .local _ .vmem, ⟨7, _⟩ => ⟨S1x2048, .f32⟩
  | .local _ .vmem, ⟨8, _⟩ => ⟨S1024x1024, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S2112x1024, .bf16⟩
  | .local _ .vmem, ⟨13, _⟩ => ⟨S32x2112x64, .bf16⟩
  | .local _ .vmem, ⟨14, _⟩ => ⟨S32x768x64, .bf16⟩
  | .local _ .vmem, ⟨15, _⟩ => ⟨S1024x1024, .bf16⟩
  | .local _ .vmem, ⟨16, _⟩ => ⟨S1024x2048, .bf16⟩
  | .local _ .vmem, ⟨17, _⟩ => ⟨S1024x1024, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![20], ![false]⟩

def k0_cond2 (i : grid0.Coords) : BitVec 1 :=
  let arg0 : BitVec 32 := BitVec.ofNat 32 (i 0).val
  let c12_i32 : BitVec 32 := 12#32
  let v3 : BitVec 1 := Scalar.cmpi .slt arg0 c12_i32
  let v4 : BitVec 32 := Scalar.extui v3
  let c0_i32_1 : BitVec 32 := 0#32
  let v5 : BitVec 1 := Scalar.cmpi .ne v4 c0_i32_1
  v5

def k0_mult1 (i : grid0.Coords) : BitVec 32 :=
  let arg0 : BitVec 32 := BitVec.ofNat 32 (i 0).val
  let c10_i32 : BitVec 32 := 10#32
  let v9 : BitVec 32 := Scalar.minsi arg0 c10_i32
  let c192_i32 : BitVec 32 := 192#32
  let v10 : BitVec 32 := Scalar.muli v9 c192_i32
  v10
def k0_off1 (i : grid0.Coords) : Fin 2 → Nat :=
  let arg0 : BitVec 32 := BitVec.ofNat 32 (i 0).val
  let c10_i32 : BitVec 32 := 10#32
  let v9 : BitVec 32 := Scalar.minsi arg0 c10_i32
  let c192_i32 : BitVec 32 := 192#32
  let v10 : BitVec 32 := Scalar.muli v9 c192_i32
  let v11 : BitVec 32 := v10
  let v22 : Index := Scalar.indexCast v11
  let c0_9 : Index := 0#32
  ![v22.toNat, 0]
def k0_off2 (i : grid0.Coords) : Fin 3 → Nat :=
  let c0_17 : Index := 0#32
  let arg0 : BitVec 32 := BitVec.ofNat 32 (i 0).val
  let c10_i32 : BitVec 32 := 10#32
  let v9 : BitVec 32 := Scalar.minsi arg0 c10_i32
  let c192_i32 : BitVec 32 := 192#32
  let v10 : BitVec 32 := Scalar.muli v9 c192_i32
  let v11 : BitVec 32 := v10
  let v38 : Index := Scalar.indexCast v11
  let c0_18 : Index := 0#32
  ![0, v38.toNat, 0]
def k0_mult2 (i : grid0.Coords) : BitVec 32 :=
  let arg0 : BitVec 32 := BitVec.ofNat 32 (i 0).val
  let c64_i32_20 : BitVec 32 := 64#32
  let v56 : BitVec 32 := Scalar.muli arg0 c64_i32_20
  v56
def k0_off3 (i : grid0.Coords) : Fin 3 → Nat :=
  let c0_21 : Index := 0#32
  let arg0 : BitVec 32 := BitVec.ofNat 32 (i 0).val
  let c64_i32_20 : BitVec 32 := 64#32
  let v56 : BitVec 32 := Scalar.muli arg0 c64_i32_20
  let v57 : BitVec 32 := v56
  let v58 : Index := Scalar.indexCast v57
  let c0_22 : Index := 0#32
  ![0, v58.toNat, 0]
def k0_cond3 (i : grid0.Coords) : BitVec 1 :=
  let arg0 : BitVec 32 := BitVec.ofNat 32 (i 0).val
  let c12_i32_2 : BitVec 32 := 12#32
  let v6 : BitVec 1 := Scalar.cmpi .sge arg0 c12_i32_2
  let v7 : BitVec 32 := Scalar.extui v6
  let c0_i32_3 : BitVec 32 := 0#32
  let v8 : BitVec 1 := Scalar.cmpi .ne v7 c0_i32_3
  v8

def k0_mult3 (i : grid0.Coords) : BitVec 32 :=
  let arg0 : BitVec 32 := BitVec.ofNat 32 (i 0).val
  let c12_i32_4 : BitVec 32 := 12#32
  let v9 : BitVec 32 := Scalar.subi arg0 c12_i32_4
  let c256_i32 : BitVec 32 := 256#32
  let v10 : BitVec 32 := Scalar.muli v9 c256_i32
  let c64_i32 : BitVec 32 := 64#32
  let v11 : BitVec 32 := Scalar.subi v10 c64_i32
  let c0_i32_5 : BitVec 32 := 0#32
  let v12 : BitVec 32 := Scalar.maxsi v11 c0_i32_5
  let c1664_i32 : BitVec 32 := 1664#32
  let v13 : BitVec 32 := Scalar.minsi v12 c1664_i32
  v13
def k0_mult4 (i : grid0.Coords) : BitVec 32 :=
  let arg0 : BitVec 32 := BitVec.ofNat 32 (i 0).val
  let c12_i32_4 : BitVec 32 := 12#32
  let v9 : BitVec 32 := Scalar.subi arg0 c12_i32_4
  let c256_i32 : BitVec 32 := 256#32
  let v10 : BitVec 32 := Scalar.muli v9 c256_i32
  v10
def k0_off4 (i : grid0.Coords) : Fin 2 → Nat :=
  let arg0 : BitVec 32 := BitVec.ofNat 32 (i 0).val
  let c12_i32_4 : BitVec 32 := 12#32
  let v9 : BitVec 32 := Scalar.subi arg0 c12_i32_4
  let c256_i32 : BitVec 32 := 256#32
  let v10 : BitVec 32 := Scalar.muli v9 c256_i32
  let v55 : BitVec 32 := v10
  let v56 : Index := Scalar.indexCast v55
  let c0 : Index := 0#32
  ![v56.toNat, 0]
def k0_off5 (i : grid0.Coords) : Fin 3 → Nat :=
  let c0_20 : Index := 0#32
  let arg0 : BitVec 32 := BitVec.ofNat 32 (i 0).val
  let c12_i32_4 : BitVec 32 := 12#32
  let v9 : BitVec 32 := Scalar.subi arg0 c12_i32_4
  let c256_i32 : BitVec 32 := 256#32
  let v10 : BitVec 32 := Scalar.muli v9 c256_i32
  let c64_i32 : BitVec 32 := 64#32
  let v11 : BitVec 32 := Scalar.subi v10 c64_i32
  let c0_i32_5 : BitVec 32 := 0#32
  let v12 : BitVec 32 := Scalar.maxsi v11 c0_i32_5
  let c1664_i32 : BitVec 32 := 1664#32
  let v13 : BitVec 32 := Scalar.minsi v12 c1664_i32
  let v14 : BitVec 32 := v13
  let v63 : Index := Scalar.indexCast v14
  let c0_21 : Index := 0#32
  ![0, v63.toNat, 0]
def k0_off6 (i : grid0.Coords) : Fin 3 → Nat :=
  let c16_27 : Index := 16#32
  let arg0 : BitVec 32 := BitVec.ofNat 32 (i 0).val
  let c12_i32_4 : BitVec 32 := 12#32
  let v9 : BitVec 32 := Scalar.subi arg0 c12_i32_4
  let c256_i32 : BitVec 32 := 256#32
  let v10 : BitVec 32 := Scalar.muli v9 c256_i32
  let c64_i32 : BitVec 32 := 64#32
  let v11 : BitVec 32 := Scalar.subi v10 c64_i32
  let c0_i32_5 : BitVec 32 := 0#32
  let v12 : BitVec 32 := Scalar.maxsi v11 c0_i32_5
  let c1664_i32 : BitVec 32 := 1664#32
  let v13 : BitVec 32 := Scalar.minsi v12 c1664_i32
  let v14 : BitVec 32 := v13
  let v80 : Index := Scalar.indexCast v14
  let c0_28 : Index := 0#32
  ![16, v80.toNat, 0]
def k0_off7 (i : grid0.Coords) : Fin 2 → Nat :=
  let arg0 : BitVec 32 := BitVec.ofNat 32 (i 0).val
  let c12_i32_4 : BitVec 32 := 12#32
  let v9 : BitVec 32 := Scalar.subi arg0 c12_i32_4
  let c256_i32 : BitVec 32 := 256#32
  let v10 : BitVec 32 := Scalar.muli v9 c256_i32
  let v55 : BitVec 32 := v10
  let v89 : Index := Scalar.indexCast v55
  let c64 : Index := 64#32
  ![v89.toNat, 64]
def k0_off8 (i : grid0.Coords) : Fin 3 → Nat :=
  let c1_34 : Index := 1#32
  let arg0 : BitVec 32 := BitVec.ofNat 32 (i 0).val
  let c12_i32_4 : BitVec 32 := 12#32
  let v9 : BitVec 32 := Scalar.subi arg0 c12_i32_4
  let c256_i32 : BitVec 32 := 256#32
  let v10 : BitVec 32 := Scalar.muli v9 c256_i32
  let c64_i32 : BitVec 32 := 64#32
  let v11 : BitVec 32 := Scalar.subi v10 c64_i32
  let c0_i32_5 : BitVec 32 := 0#32
  let v12 : BitVec 32 := Scalar.maxsi v11 c0_i32_5
  let c1664_i32 : BitVec 32 := 1664#32
  let v13 : BitVec 32 := Scalar.minsi v12 c1664_i32
  let v14 : BitVec 32 := v13
  let v96 : Index := Scalar.indexCast v14
  let c0_35 : Index := 0#32
  ![1, v96.toNat, 0]
def k0_off9 (i : grid0.Coords) : Fin 3 → Nat :=
  let c17_41 : Index := 17#32
  let arg0 : BitVec 32 := BitVec.ofNat 32 (i 0).val
  let c12_i32_4 : BitVec 32 := 12#32
  let v9 : BitVec 32 := Scalar.subi arg0 c12_i32_4
  let c256_i32 : BitVec 32 := 256#32
  let v10 : BitVec 32 := Scalar.muli v9 c256_i32
  let c64_i32 : BitVec 32 := 64#32
  let v11 : BitVec 32 := Scalar.subi v10 c64_i32
  let c0_i32_5 : BitVec 32 := 0#32
  let v12 : BitVec 32 := Scalar.maxsi v11 c0_i32_5
  let c1664_i32 : BitVec 32 := 1664#32
  let v13 : BitVec 32 := Scalar.minsi v12 c1664_i32
  let v14 : BitVec 32 := v13
  let v113 : Index := Scalar.indexCast v14
  let c0_42 : Index := 0#32
  ![17, v113.toNat, 0]
def k0_off10 (i : grid0.Coords) : Fin 2 → Nat :=
  let arg0 : BitVec 32 := BitVec.ofNat 32 (i 0).val
  let c12_i32_4 : BitVec 32 := 12#32
  let v9 : BitVec 32 := Scalar.subi arg0 c12_i32_4
  let c256_i32 : BitVec 32 := 256#32
  let v10 : BitVec 32 := Scalar.muli v9 c256_i32
  let v55 : BitVec 32 := v10
  let v122 : Index := Scalar.indexCast v55
  let c128 : Index := 128#32
  ![v122.toNat, 128]
def k0_off11 (i : grid0.Coords) : Fin 3 → Nat :=
  let c2_48 : Index := 2#32
  let arg0 : BitVec 32 := BitVec.ofNat 32 (i 0).val
  let c12_i32_4 : BitVec 32 := 12#32
  let v9 : BitVec 32 := Scalar.subi arg0 c12_i32_4
  let c256_i32 : BitVec 32 := 256#32
  let v10 : BitVec 32 := Scalar.muli v9 c256_i32
  let c64_i32 : BitVec 32 := 64#32
  let v11 : BitVec 32 := Scalar.subi v10 c64_i32
  let c0_i32_5 : BitVec 32 := 0#32
  let v12 : BitVec 32 := Scalar.maxsi v11 c0_i32_5
  let c1664_i32 : BitVec 32 := 1664#32
  let v13 : BitVec 32 := Scalar.minsi v12 c1664_i32
  let v14 : BitVec 32 := v13
  let v129 : Index := Scalar.indexCast v14
  let c0_49 : Index := 0#32
  ![2, v129.toNat, 0]
def k0_off12 (i : grid0.Coords) : Fin 3 → Nat :=
  let c18_55 : Index := 18#32
  let arg0 : BitVec 32 := BitVec.ofNat 32 (i 0).val
  let c12_i32_4 : BitVec 32 := 12#32
  let v9 : BitVec 32 := Scalar.subi arg0 c12_i32_4
  let c256_i32 : BitVec 32 := 256#32
  let v10 : BitVec 32 := Scalar.muli v9 c256_i32
  let c64_i32 : BitVec 32 := 64#32
  let v11 : BitVec 32 := Scalar.subi v10 c64_i32
  let c0_i32_5 : BitVec 32 := 0#32
  let v12 : BitVec 32 := Scalar.maxsi v11 c0_i32_5
  let c1664_i32 : BitVec 32 := 1664#32
  let v13 : BitVec 32 := Scalar.minsi v12 c1664_i32
  let v14 : BitVec 32 := v13
  let v146 : Index := Scalar.indexCast v14
  let c0_56 : Index := 0#32
  ![18, v146.toNat, 0]
def k0_off13 (i : grid0.Coords) : Fin 2 → Nat :=
  let arg0 : BitVec 32 := BitVec.ofNat 32 (i 0).val
  let c12_i32_4 : BitVec 32 := 12#32
  let v9 : BitVec 32 := Scalar.subi arg0 c12_i32_4
  let c256_i32 : BitVec 32 := 256#32
  let v10 : BitVec 32 := Scalar.muli v9 c256_i32
  let v55 : BitVec 32 := v10
  let v155 : Index := Scalar.indexCast v55
  let c192 : Index := 192#32
  ![v155.toNat, 192]
def k0_off14 (i : grid0.Coords) : Fin 3 → Nat :=
  let c3_62 : Index := 3#32
  let arg0 : BitVec 32 := BitVec.ofNat 32 (i 0).val
  let c12_i32_4 : BitVec 32 := 12#32
  let v9 : BitVec 32 := Scalar.subi arg0 c12_i32_4
  let c256_i32 : BitVec 32 := 256#32
  let v10 : BitVec 32 := Scalar.muli v9 c256_i32
  let c64_i32 : BitVec 32 := 64#32
  let v11 : BitVec 32 := Scalar.subi v10 c64_i32
  let c0_i32_5 : BitVec 32 := 0#32
  let v12 : BitVec 32 := Scalar.maxsi v11 c0_i32_5
  let c1664_i32 : BitVec 32 := 1664#32
  let v13 : BitVec 32 := Scalar.minsi v12 c1664_i32
  let v14 : BitVec 32 := v13
  let v162 : Index := Scalar.indexCast v14
  let c0_63 : Index := 0#32
  ![3, v162.toNat, 0]
def k0_off15 (i : grid0.Coords) : Fin 3 → Nat :=
  let c19_69 : Index := 19#32
  let arg0 : BitVec 32 := BitVec.ofNat 32 (i 0).val
  let c12_i32_4 : BitVec 32 := 12#32
  let v9 : BitVec 32 := Scalar.subi arg0 c12_i32_4
  let c256_i32 : BitVec 32 := 256#32
  let v10 : BitVec 32 := Scalar.muli v9 c256_i32
  let c64_i32 : BitVec 32 := 64#32
  let v11 : BitVec 32 := Scalar.subi v10 c64_i32
  let c0_i32_5 : BitVec 32 := 0#32
  let v12 : BitVec 32 := Scalar.maxsi v11 c0_i32_5
  let c1664_i32 : BitVec 32 := 1664#32
  let v13 : BitVec 32 := Scalar.minsi v12 c1664_i32
  let v14 : BitVec 32 := v13
  let v179 : Index := Scalar.indexCast v14
  let c0_70 : Index := 0#32
  ![19, v179.toNat, 0]
def k0_off16 (i : grid0.Coords) : Fin 2 → Nat :=
  let arg0 : BitVec 32 := BitVec.ofNat 32 (i 0).val
  let c12_i32_4 : BitVec 32 := 12#32
  let v9 : BitVec 32 := Scalar.subi arg0 c12_i32_4
  let c256_i32 : BitVec 32 := 256#32
  let v10 : BitVec 32 := Scalar.muli v9 c256_i32
  let v55 : BitVec 32 := v10
  let v188 : Index := Scalar.indexCast v55
  let c256 : Index := 256#32
  ![v188.toNat, 256]
def k0_off17 (i : grid0.Coords) : Fin 3 → Nat :=
  let c4_76 : Index := 4#32
  let arg0 : BitVec 32 := BitVec.ofNat 32 (i 0).val
  let c12_i32_4 : BitVec 32 := 12#32
  let v9 : BitVec 32 := Scalar.subi arg0 c12_i32_4
  let c256_i32 : BitVec 32 := 256#32
  let v10 : BitVec 32 := Scalar.muli v9 c256_i32
  let c64_i32 : BitVec 32 := 64#32
  let v11 : BitVec 32 := Scalar.subi v10 c64_i32
  let c0_i32_5 : BitVec 32 := 0#32
  let v12 : BitVec 32 := Scalar.maxsi v11 c0_i32_5
  let c1664_i32 : BitVec 32 := 1664#32
  let v13 : BitVec 32 := Scalar.minsi v12 c1664_i32
  let v14 : BitVec 32 := v13
  let v195 : Index := Scalar.indexCast v14
  let c0_77 : Index := 0#32
  ![4, v195.toNat, 0]
def k0_off18 (i : grid0.Coords) : Fin 3 → Nat :=
  let c20_83 : Index := 20#32
  let arg0 : BitVec 32 := BitVec.ofNat 32 (i 0).val
  let c12_i32_4 : BitVec 32 := 12#32
  let v9 : BitVec 32 := Scalar.subi arg0 c12_i32_4
  let c256_i32 : BitVec 32 := 256#32
  let v10 : BitVec 32 := Scalar.muli v9 c256_i32
  let c64_i32 : BitVec 32 := 64#32
  let v11 : BitVec 32 := Scalar.subi v10 c64_i32
  let c0_i32_5 : BitVec 32 := 0#32
  let v12 : BitVec 32 := Scalar.maxsi v11 c0_i32_5
  let c1664_i32 : BitVec 32 := 1664#32
  let v13 : BitVec 32 := Scalar.minsi v12 c1664_i32
  let v14 : BitVec 32 := v13
  let v212 : Index := Scalar.indexCast v14
  let c0_84 : Index := 0#32
  ![20, v212.toNat, 0]
def k0_off19 (i : grid0.Coords) : Fin 2 → Nat :=
  let arg0 : BitVec 32 := BitVec.ofNat 32 (i 0).val
  let c12_i32_4 : BitVec 32 := 12#32
  let v9 : BitVec 32 := Scalar.subi arg0 c12_i32_4
  let c256_i32 : BitVec 32 := 256#32
  let v10 : BitVec 32 := Scalar.muli v9 c256_i32
  let v55 : BitVec 32 := v10
  let v221 : Index := Scalar.indexCast v55
  let c320 : Index := 320#32
  ![v221.toNat, 320]
def k0_off20 (i : grid0.Coords) : Fin 3 → Nat :=
  let c5_90 : Index := 5#32
  let arg0 : BitVec 32 := BitVec.ofNat 32 (i 0).val
  let c12_i32_4 : BitVec 32 := 12#32
  let v9 : BitVec 32 := Scalar.subi arg0 c12_i32_4
  let c256_i32 : BitVec 32 := 256#32
  let v10 : BitVec 32 := Scalar.muli v9 c256_i32
  let c64_i32 : BitVec 32 := 64#32
  let v11 : BitVec 32 := Scalar.subi v10 c64_i32
  let c0_i32_5 : BitVec 32 := 0#32
  let v12 : BitVec 32 := Scalar.maxsi v11 c0_i32_5
  let c1664_i32 : BitVec 32 := 1664#32
  let v13 : BitVec 32 := Scalar.minsi v12 c1664_i32
  let v14 : BitVec 32 := v13
  let v228 : Index := Scalar.indexCast v14
  let c0_91 : Index := 0#32
  ![5, v228.toNat, 0]
def k0_off21 (i : grid0.Coords) : Fin 3 → Nat :=
  let c21_97 : Index := 21#32
  let arg0 : BitVec 32 := BitVec.ofNat 32 (i 0).val
  let c12_i32_4 : BitVec 32 := 12#32
  let v9 : BitVec 32 := Scalar.subi arg0 c12_i32_4
  let c256_i32 : BitVec 32 := 256#32
  let v10 : BitVec 32 := Scalar.muli v9 c256_i32
  let c64_i32 : BitVec 32 := 64#32
  let v11 : BitVec 32 := Scalar.subi v10 c64_i32
  let c0_i32_5 : BitVec 32 := 0#32
  let v12 : BitVec 32 := Scalar.maxsi v11 c0_i32_5
  let c1664_i32 : BitVec 32 := 1664#32
  let v13 : BitVec 32 := Scalar.minsi v12 c1664_i32
  let v14 : BitVec 32 := v13
  let v245 : Index := Scalar.indexCast v14
  let c0_98 : Index := 0#32
  ![21, v245.toNat, 0]
def k0_off22 (i : grid0.Coords) : Fin 2 → Nat :=
  let arg0 : BitVec 32 := BitVec.ofNat 32 (i 0).val
  let c12_i32_4 : BitVec 32 := 12#32
  let v9 : BitVec 32 := Scalar.subi arg0 c12_i32_4
  let c256_i32 : BitVec 32 := 256#32
  let v10 : BitVec 32 := Scalar.muli v9 c256_i32
  let v55 : BitVec 32 := v10
  let v254 : Index := Scalar.indexCast v55
  let c384 : Index := 384#32
  ![v254.toNat, 384]
def k0_off23 (i : grid0.Coords) : Fin 3 → Nat :=
  let c6_104 : Index := 6#32
  let arg0 : BitVec 32 := BitVec.ofNat 32 (i 0).val
  let c12_i32_4 : BitVec 32 := 12#32
  let v9 : BitVec 32 := Scalar.subi arg0 c12_i32_4
  let c256_i32 : BitVec 32 := 256#32
  let v10 : BitVec 32 := Scalar.muli v9 c256_i32
  let c64_i32 : BitVec 32 := 64#32
  let v11 : BitVec 32 := Scalar.subi v10 c64_i32
  let c0_i32_5 : BitVec 32 := 0#32
  let v12 : BitVec 32 := Scalar.maxsi v11 c0_i32_5
  let c1664_i32 : BitVec 32 := 1664#32
  let v13 : BitVec 32 := Scalar.minsi v12 c1664_i32
  let v14 : BitVec 32 := v13
  let v261 : Index := Scalar.indexCast v14
  let c0_105 : Index := 0#32
  ![6, v261.toNat, 0]
def k0_off24 (i : grid0.Coords) : Fin 3 → Nat :=
  let c22_111 : Index := 22#32
  let arg0 : BitVec 32 := BitVec.ofNat 32 (i 0).val
  let c12_i32_4 : BitVec 32 := 12#32
  let v9 : BitVec 32 := Scalar.subi arg0 c12_i32_4
  let c256_i32 : BitVec 32 := 256#32
  let v10 : BitVec 32 := Scalar.muli v9 c256_i32
  let c64_i32 : BitVec 32 := 64#32
  let v11 : BitVec 32 := Scalar.subi v10 c64_i32
  let c0_i32_5 : BitVec 32 := 0#32
  let v12 : BitVec 32 := Scalar.maxsi v11 c0_i32_5
  let c1664_i32 : BitVec 32 := 1664#32
  let v13 : BitVec 32 := Scalar.minsi v12 c1664_i32
  let v14 : BitVec 32 := v13
  let v278 : Index := Scalar.indexCast v14
  let c0_112 : Index := 0#32
  ![22, v278.toNat, 0]
def k0_off25 (i : grid0.Coords) : Fin 2 → Nat :=
  let arg0 : BitVec 32 := BitVec.ofNat 32 (i 0).val
  let c12_i32_4 : BitVec 32 := 12#32
  let v9 : BitVec 32 := Scalar.subi arg0 c12_i32_4
  let c256_i32 : BitVec 32 := 256#32
  let v10 : BitVec 32 := Scalar.muli v9 c256_i32
  let v55 : BitVec 32 := v10
  let v287 : Index := Scalar.indexCast v55
  let c448 : Index := 448#32
  ![v287.toNat, 448]
def k0_off26 (i : grid0.Coords) : Fin 3 → Nat :=
  let c7_118 : Index := 7#32
  let arg0 : BitVec 32 := BitVec.ofNat 32 (i 0).val
  let c12_i32_4 : BitVec 32 := 12#32
  let v9 : BitVec 32 := Scalar.subi arg0 c12_i32_4
  let c256_i32 : BitVec 32 := 256#32
  let v10 : BitVec 32 := Scalar.muli v9 c256_i32
  let c64_i32 : BitVec 32 := 64#32
  let v11 : BitVec 32 := Scalar.subi v10 c64_i32
  let c0_i32_5 : BitVec 32 := 0#32
  let v12 : BitVec 32 := Scalar.maxsi v11 c0_i32_5
  let c1664_i32 : BitVec 32 := 1664#32
  let v13 : BitVec 32 := Scalar.minsi v12 c1664_i32
  let v14 : BitVec 32 := v13
  let v294 : Index := Scalar.indexCast v14
  let c0_119 : Index := 0#32
  ![7, v294.toNat, 0]
def k0_off27 (i : grid0.Coords) : Fin 3 → Nat :=
  let c23_125 : Index := 23#32
  let arg0 : BitVec 32 := BitVec.ofNat 32 (i 0).val
  let c12_i32_4 : BitVec 32 := 12#32
  let v9 : BitVec 32 := Scalar.subi arg0 c12_i32_4
  let c256_i32 : BitVec 32 := 256#32
  let v10 : BitVec 32 := Scalar.muli v9 c256_i32
  let c64_i32 : BitVec 32 := 64#32
  let v11 : BitVec 32 := Scalar.subi v10 c64_i32
  let c0_i32_5 : BitVec 32 := 0#32
  let v12 : BitVec 32 := Scalar.maxsi v11 c0_i32_5
  let c1664_i32 : BitVec 32 := 1664#32
  let v13 : BitVec 32 := Scalar.minsi v12 c1664_i32
  let v14 : BitVec 32 := v13
  let v311 : Index := Scalar.indexCast v14
  let c0_126 : Index := 0#32
  ![23, v311.toNat, 0]
def k0_off28 (i : grid0.Coords) : Fin 2 → Nat :=
  let arg0 : BitVec 32 := BitVec.ofNat 32 (i 0).val
  let c12_i32_4 : BitVec 32 := 12#32
  let v9 : BitVec 32 := Scalar.subi arg0 c12_i32_4
  let c256_i32 : BitVec 32 := 256#32
  let v10 : BitVec 32 := Scalar.muli v9 c256_i32
  let v55 : BitVec 32 := v10
  let v320 : Index := Scalar.indexCast v55
  let c512 : Index := 512#32
  ![v320.toNat, 512]
def k0_off29 (i : grid0.Coords) : Fin 3 → Nat :=
  let c8_132 : Index := 8#32
  let arg0 : BitVec 32 := BitVec.ofNat 32 (i 0).val
  let c12_i32_4 : BitVec 32 := 12#32
  let v9 : BitVec 32 := Scalar.subi arg0 c12_i32_4
  let c256_i32 : BitVec 32 := 256#32
  let v10 : BitVec 32 := Scalar.muli v9 c256_i32
  let c64_i32 : BitVec 32 := 64#32
  let v11 : BitVec 32 := Scalar.subi v10 c64_i32
  let c0_i32_5 : BitVec 32 := 0#32
  let v12 : BitVec 32 := Scalar.maxsi v11 c0_i32_5
  let c1664_i32 : BitVec 32 := 1664#32
  let v13 : BitVec 32 := Scalar.minsi v12 c1664_i32
  let v14 : BitVec 32 := v13
  let v327 : Index := Scalar.indexCast v14
  let c0_133 : Index := 0#32
  ![8, v327.toNat, 0]
def k0_off30 (i : grid0.Coords) : Fin 3 → Nat :=
  let c24_139 : Index := 24#32
  let arg0 : BitVec 32 := BitVec.ofNat 32 (i 0).val
  let c12_i32_4 : BitVec 32 := 12#32
  let v9 : BitVec 32 := Scalar.subi arg0 c12_i32_4
  let c256_i32 : BitVec 32 := 256#32
  let v10 : BitVec 32 := Scalar.muli v9 c256_i32
  let c64_i32 : BitVec 32 := 64#32
  let v11 : BitVec 32 := Scalar.subi v10 c64_i32
  let c0_i32_5 : BitVec 32 := 0#32
  let v12 : BitVec 32 := Scalar.maxsi v11 c0_i32_5
  let c1664_i32 : BitVec 32 := 1664#32
  let v13 : BitVec 32 := Scalar.minsi v12 c1664_i32
  let v14 : BitVec 32 := v13
  let v344 : Index := Scalar.indexCast v14
  let c0_140 : Index := 0#32
  ![24, v344.toNat, 0]
def k0_off31 (i : grid0.Coords) : Fin 2 → Nat :=
  let arg0 : BitVec 32 := BitVec.ofNat 32 (i 0).val
  let c12_i32_4 : BitVec 32 := 12#32
  let v9 : BitVec 32 := Scalar.subi arg0 c12_i32_4
  let c256_i32 : BitVec 32 := 256#32
  let v10 : BitVec 32 := Scalar.muli v9 c256_i32
  let v55 : BitVec 32 := v10
  let v353 : Index := Scalar.indexCast v55
  let c576 : Index := 576#32
  ![v353.toNat, 576]
def k0_off32 (i : grid0.Coords) : Fin 3 → Nat :=
  let c9_146 : Index := 9#32
  let arg0 : BitVec 32 := BitVec.ofNat 32 (i 0).val
  let c12_i32_4 : BitVec 32 := 12#32
  let v9 : BitVec 32 := Scalar.subi arg0 c12_i32_4
  let c256_i32 : BitVec 32 := 256#32
  let v10 : BitVec 32 := Scalar.muli v9 c256_i32
  let c64_i32 : BitVec 32 := 64#32
  let v11 : BitVec 32 := Scalar.subi v10 c64_i32
  let c0_i32_5 : BitVec 32 := 0#32
  let v12 : BitVec 32 := Scalar.maxsi v11 c0_i32_5
  let c1664_i32 : BitVec 32 := 1664#32
  let v13 : BitVec 32 := Scalar.minsi v12 c1664_i32
  let v14 : BitVec 32 := v13
  let v360 : Index := Scalar.indexCast v14
  let c0_147 : Index := 0#32
  ![9, v360.toNat, 0]
def k0_off33 (i : grid0.Coords) : Fin 3 → Nat :=
  let c25_153 : Index := 25#32
  let arg0 : BitVec 32 := BitVec.ofNat 32 (i 0).val
  let c12_i32_4 : BitVec 32 := 12#32
  let v9 : BitVec 32 := Scalar.subi arg0 c12_i32_4
  let c256_i32 : BitVec 32 := 256#32
  let v10 : BitVec 32 := Scalar.muli v9 c256_i32
  let c64_i32 : BitVec 32 := 64#32
  let v11 : BitVec 32 := Scalar.subi v10 c64_i32
  let c0_i32_5 : BitVec 32 := 0#32
  let v12 : BitVec 32 := Scalar.maxsi v11 c0_i32_5
  let c1664_i32 : BitVec 32 := 1664#32
  let v13 : BitVec 32 := Scalar.minsi v12 c1664_i32
  let v14 : BitVec 32 := v13
  let v377 : Index := Scalar.indexCast v14
  let c0_154 : Index := 0#32
  ![25, v377.toNat, 0]
def k0_off34 (i : grid0.Coords) : Fin 2 → Nat :=
  let arg0 : BitVec 32 := BitVec.ofNat 32 (i 0).val
  let c12_i32_4 : BitVec 32 := 12#32
  let v9 : BitVec 32 := Scalar.subi arg0 c12_i32_4
  let c256_i32 : BitVec 32 := 256#32
  let v10 : BitVec 32 := Scalar.muli v9 c256_i32
  let v55 : BitVec 32 := v10
  let v386 : Index := Scalar.indexCast v55
  let c640 : Index := 640#32
  ![v386.toNat, 640]
def k0_off35 (i : grid0.Coords) : Fin 3 → Nat :=
  let c10_160 : Index := 10#32
  let arg0 : BitVec 32 := BitVec.ofNat 32 (i 0).val
  let c12_i32_4 : BitVec 32 := 12#32
  let v9 : BitVec 32 := Scalar.subi arg0 c12_i32_4
  let c256_i32 : BitVec 32 := 256#32
  let v10 : BitVec 32 := Scalar.muli v9 c256_i32
  let c64_i32 : BitVec 32 := 64#32
  let v11 : BitVec 32 := Scalar.subi v10 c64_i32
  let c0_i32_5 : BitVec 32 := 0#32
  let v12 : BitVec 32 := Scalar.maxsi v11 c0_i32_5
  let c1664_i32 : BitVec 32 := 1664#32
  let v13 : BitVec 32 := Scalar.minsi v12 c1664_i32
  let v14 : BitVec 32 := v13
  let v393 : Index := Scalar.indexCast v14
  let c0_161 : Index := 0#32
  ![10, v393.toNat, 0]
def k0_off36 (i : grid0.Coords) : Fin 3 → Nat :=
  let c26_167 : Index := 26#32
  let arg0 : BitVec 32 := BitVec.ofNat 32 (i 0).val
  let c12_i32_4 : BitVec 32 := 12#32
  let v9 : BitVec 32 := Scalar.subi arg0 c12_i32_4
  let c256_i32 : BitVec 32 := 256#32
  let v10 : BitVec 32 := Scalar.muli v9 c256_i32
  let c64_i32 : BitVec 32 := 64#32
  let v11 : BitVec 32 := Scalar.subi v10 c64_i32
  let c0_i32_5 : BitVec 32 := 0#32
  let v12 : BitVec 32 := Scalar.maxsi v11 c0_i32_5
  let c1664_i32 : BitVec 32 := 1664#32
  let v13 : BitVec 32 := Scalar.minsi v12 c1664_i32
  let v14 : BitVec 32 := v13
  let v410 : Index := Scalar.indexCast v14
  let c0_168 : Index := 0#32
  ![26, v410.toNat, 0]
def k0_off37 (i : grid0.Coords) : Fin 2 → Nat :=
  let arg0 : BitVec 32 := BitVec.ofNat 32 (i 0).val
  let c12_i32_4 : BitVec 32 := 12#32
  let v9 : BitVec 32 := Scalar.subi arg0 c12_i32_4
  let c256_i32 : BitVec 32 := 256#32
  let v10 : BitVec 32 := Scalar.muli v9 c256_i32
  let v55 : BitVec 32 := v10
  let v419 : Index := Scalar.indexCast v55
  let c704 : Index := 704#32
  ![v419.toNat, 704]
def k0_off38 (i : grid0.Coords) : Fin 3 → Nat :=
  let c11_174 : Index := 11#32
  let arg0 : BitVec 32 := BitVec.ofNat 32 (i 0).val
  let c12_i32_4 : BitVec 32 := 12#32
  let v9 : BitVec 32 := Scalar.subi arg0 c12_i32_4
  let c256_i32 : BitVec 32 := 256#32
  let v10 : BitVec 32 := Scalar.muli v9 c256_i32
  let c64_i32 : BitVec 32 := 64#32
  let v11 : BitVec 32 := Scalar.subi v10 c64_i32
  let c0_i32_5 : BitVec 32 := 0#32
  let v12 : BitVec 32 := Scalar.maxsi v11 c0_i32_5
  let c1664_i32 : BitVec 32 := 1664#32
  let v13 : BitVec 32 := Scalar.minsi v12 c1664_i32
  let v14 : BitVec 32 := v13
  let v426 : Index := Scalar.indexCast v14
  let c0_175 : Index := 0#32
  ![11, v426.toNat, 0]
def k0_off39 (i : grid0.Coords) : Fin 3 → Nat :=
  let c27_181 : Index := 27#32
  let arg0 : BitVec 32 := BitVec.ofNat 32 (i 0).val
  let c12_i32_4 : BitVec 32 := 12#32
  let v9 : BitVec 32 := Scalar.subi arg0 c12_i32_4
  let c256_i32 : BitVec 32 := 256#32
  let v10 : BitVec 32 := Scalar.muli v9 c256_i32
  let c64_i32 : BitVec 32 := 64#32
  let v11 : BitVec 32 := Scalar.subi v10 c64_i32
  let c0_i32_5 : BitVec 32 := 0#32
  let v12 : BitVec 32 := Scalar.maxsi v11 c0_i32_5
  let c1664_i32 : BitVec 32 := 1664#32
  let v13 : BitVec 32 := Scalar.minsi v12 c1664_i32
  let v14 : BitVec 32 := v13
  let v443 : Index := Scalar.indexCast v14
  let c0_182 : Index := 0#32
  ![27, v443.toNat, 0]
def k0_off40 (i : grid0.Coords) : Fin 2 → Nat :=
  let arg0 : BitVec 32 := BitVec.ofNat 32 (i 0).val
  let c12_i32_4 : BitVec 32 := 12#32
  let v9 : BitVec 32 := Scalar.subi arg0 c12_i32_4
  let c256_i32 : BitVec 32 := 256#32
  let v10 : BitVec 32 := Scalar.muli v9 c256_i32
  let v55 : BitVec 32 := v10
  let v452 : Index := Scalar.indexCast v55
  let c768 : Index := 768#32
  ![v452.toNat, 768]
def k0_off41 (i : grid0.Coords) : Fin 3 → Nat :=
  let c12_188 : Index := 12#32
  let arg0 : BitVec 32 := BitVec.ofNat 32 (i 0).val
  let c12_i32_4 : BitVec 32 := 12#32
  let v9 : BitVec 32 := Scalar.subi arg0 c12_i32_4
  let c256_i32 : BitVec 32 := 256#32
  let v10 : BitVec 32 := Scalar.muli v9 c256_i32
  let c64_i32 : BitVec 32 := 64#32
  let v11 : BitVec 32 := Scalar.subi v10 c64_i32
  let c0_i32_5 : BitVec 32 := 0#32
  let v12 : BitVec 32 := Scalar.maxsi v11 c0_i32_5
  let c1664_i32 : BitVec 32 := 1664#32
  let v13 : BitVec 32 := Scalar.minsi v12 c1664_i32
  let v14 : BitVec 32 := v13
  let v459 : Index := Scalar.indexCast v14
  let c0_189 : Index := 0#32
  ![12, v459.toNat, 0]
def k0_off42 (i : grid0.Coords) : Fin 3 → Nat :=
  let c28_195 : Index := 28#32
  let arg0 : BitVec 32 := BitVec.ofNat 32 (i 0).val
  let c12_i32_4 : BitVec 32 := 12#32
  let v9 : BitVec 32 := Scalar.subi arg0 c12_i32_4
  let c256_i32 : BitVec 32 := 256#32
  let v10 : BitVec 32 := Scalar.muli v9 c256_i32
  let c64_i32 : BitVec 32 := 64#32
  let v11 : BitVec 32 := Scalar.subi v10 c64_i32
  let c0_i32_5 : BitVec 32 := 0#32
  let v12 : BitVec 32 := Scalar.maxsi v11 c0_i32_5
  let c1664_i32 : BitVec 32 := 1664#32
  let v13 : BitVec 32 := Scalar.minsi v12 c1664_i32
  let v14 : BitVec 32 := v13
  let v476 : Index := Scalar.indexCast v14
  let c0_196 : Index := 0#32
  ![28, v476.toNat, 0]
def k0_off43 (i : grid0.Coords) : Fin 2 → Nat :=
  let arg0 : BitVec 32 := BitVec.ofNat 32 (i 0).val
  let c12_i32_4 : BitVec 32 := 12#32
  let v9 : BitVec 32 := Scalar.subi arg0 c12_i32_4
  let c256_i32 : BitVec 32 := 256#32
  let v10 : BitVec 32 := Scalar.muli v9 c256_i32
  let v55 : BitVec 32 := v10
  let v485 : Index := Scalar.indexCast v55
  let c832 : Index := 832#32
  ![v485.toNat, 832]
def k0_off44 (i : grid0.Coords) : Fin 3 → Nat :=
  let c13_202 : Index := 13#32
  let arg0 : BitVec 32 := BitVec.ofNat 32 (i 0).val
  let c12_i32_4 : BitVec 32 := 12#32
  let v9 : BitVec 32 := Scalar.subi arg0 c12_i32_4
  let c256_i32 : BitVec 32 := 256#32
  let v10 : BitVec 32 := Scalar.muli v9 c256_i32
  let c64_i32 : BitVec 32 := 64#32
  let v11 : BitVec 32 := Scalar.subi v10 c64_i32
  let c0_i32_5 : BitVec 32 := 0#32
  let v12 : BitVec 32 := Scalar.maxsi v11 c0_i32_5
  let c1664_i32 : BitVec 32 := 1664#32
  let v13 : BitVec 32 := Scalar.minsi v12 c1664_i32
  let v14 : BitVec 32 := v13
  let v492 : Index := Scalar.indexCast v14
  let c0_203 : Index := 0#32
  ![13, v492.toNat, 0]
def k0_off45 (i : grid0.Coords) : Fin 3 → Nat :=
  let c29_209 : Index := 29#32
  let arg0 : BitVec 32 := BitVec.ofNat 32 (i 0).val
  let c12_i32_4 : BitVec 32 := 12#32
  let v9 : BitVec 32 := Scalar.subi arg0 c12_i32_4
  let c256_i32 : BitVec 32 := 256#32
  let v10 : BitVec 32 := Scalar.muli v9 c256_i32
  let c64_i32 : BitVec 32 := 64#32
  let v11 : BitVec 32 := Scalar.subi v10 c64_i32
  let c0_i32_5 : BitVec 32 := 0#32
  let v12 : BitVec 32 := Scalar.maxsi v11 c0_i32_5
  let c1664_i32 : BitVec 32 := 1664#32
  let v13 : BitVec 32 := Scalar.minsi v12 c1664_i32
  let v14 : BitVec 32 := v13
  let v509 : Index := Scalar.indexCast v14
  let c0_210 : Index := 0#32
  ![29, v509.toNat, 0]
def k0_off46 (i : grid0.Coords) : Fin 2 → Nat :=
  let arg0 : BitVec 32 := BitVec.ofNat 32 (i 0).val
  let c12_i32_4 : BitVec 32 := 12#32
  let v9 : BitVec 32 := Scalar.subi arg0 c12_i32_4
  let c256_i32 : BitVec 32 := 256#32
  let v10 : BitVec 32 := Scalar.muli v9 c256_i32
  let v55 : BitVec 32 := v10
  let v518 : Index := Scalar.indexCast v55
  let c896 : Index := 896#32
  ![v518.toNat, 896]
def k0_off47 (i : grid0.Coords) : Fin 3 → Nat :=
  let c14_216 : Index := 14#32
  let arg0 : BitVec 32 := BitVec.ofNat 32 (i 0).val
  let c12_i32_4 : BitVec 32 := 12#32
  let v9 : BitVec 32 := Scalar.subi arg0 c12_i32_4
  let c256_i32 : BitVec 32 := 256#32
  let v10 : BitVec 32 := Scalar.muli v9 c256_i32
  let c64_i32 : BitVec 32 := 64#32
  let v11 : BitVec 32 := Scalar.subi v10 c64_i32
  let c0_i32_5 : BitVec 32 := 0#32
  let v12 : BitVec 32 := Scalar.maxsi v11 c0_i32_5
  let c1664_i32 : BitVec 32 := 1664#32
  let v13 : BitVec 32 := Scalar.minsi v12 c1664_i32
  let v14 : BitVec 32 := v13
  let v525 : Index := Scalar.indexCast v14
  let c0_217 : Index := 0#32
  ![14, v525.toNat, 0]
def k0_off48 (i : grid0.Coords) : Fin 3 → Nat :=
  let c30_223 : Index := 30#32
  let arg0 : BitVec 32 := BitVec.ofNat 32 (i 0).val
  let c12_i32_4 : BitVec 32 := 12#32
  let v9 : BitVec 32 := Scalar.subi arg0 c12_i32_4
  let c256_i32 : BitVec 32 := 256#32
  let v10 : BitVec 32 := Scalar.muli v9 c256_i32
  let c64_i32 : BitVec 32 := 64#32
  let v11 : BitVec 32 := Scalar.subi v10 c64_i32
  let c0_i32_5 : BitVec 32 := 0#32
  let v12 : BitVec 32 := Scalar.maxsi v11 c0_i32_5
  let c1664_i32 : BitVec 32 := 1664#32
  let v13 : BitVec 32 := Scalar.minsi v12 c1664_i32
  let v14 : BitVec 32 := v13
  let v542 : Index := Scalar.indexCast v14
  let c0_224 : Index := 0#32
  ![30, v542.toNat, 0]
def k0_off49 (i : grid0.Coords) : Fin 2 → Nat :=
  let arg0 : BitVec 32 := BitVec.ofNat 32 (i 0).val
  let c12_i32_4 : BitVec 32 := 12#32
  let v9 : BitVec 32 := Scalar.subi arg0 c12_i32_4
  let c256_i32 : BitVec 32 := 256#32
  let v10 : BitVec 32 := Scalar.muli v9 c256_i32
  let v55 : BitVec 32 := v10
  let v551 : Index := Scalar.indexCast v55
  let c960 : Index := 960#32
  ![v551.toNat, 960]
def k0_off50 (i : grid0.Coords) : Fin 3 → Nat :=
  let c15_230 : Index := 15#32
  let arg0 : BitVec 32 := BitVec.ofNat 32 (i 0).val
  let c12_i32_4 : BitVec 32 := 12#32
  let v9 : BitVec 32 := Scalar.subi arg0 c12_i32_4
  let c256_i32 : BitVec 32 := 256#32
  let v10 : BitVec 32 := Scalar.muli v9 c256_i32
  let c64_i32 : BitVec 32 := 64#32
  let v11 : BitVec 32 := Scalar.subi v10 c64_i32
  let c0_i32_5 : BitVec 32 := 0#32
  let v12 : BitVec 32 := Scalar.maxsi v11 c0_i32_5
  let c1664_i32 : BitVec 32 := 1664#32
  let v13 : BitVec 32 := Scalar.minsi v12 c1664_i32
  let v14 : BitVec 32 := v13
  let v558 : Index := Scalar.indexCast v14
  let c0_231 : Index := 0#32
  ![15, v558.toNat, 0]
def k0_off51 (i : grid0.Coords) : Fin 3 → Nat :=
  let c31_237 : Index := 31#32
  let arg0 : BitVec 32 := BitVec.ofNat 32 (i 0).val
  let c12_i32_4 : BitVec 32 := 12#32
  let v9 : BitVec 32 := Scalar.subi arg0 c12_i32_4
  let c256_i32 : BitVec 32 := 256#32
  let v10 : BitVec 32 := Scalar.muli v9 c256_i32
  let c64_i32 : BitVec 32 := 64#32
  let v11 : BitVec 32 := Scalar.subi v10 c64_i32
  let c0_i32_5 : BitVec 32 := 0#32
  let v12 : BitVec 32 := Scalar.maxsi v11 c0_i32_5
  let c1664_i32 : BitVec 32 := 1664#32
  let v13 : BitVec 32 := Scalar.minsi v12 c1664_i32
  let v14 : BitVec 32 := v13
  let v575 : Index := Scalar.indexCast v14
  let c0_238 : Index := 0#32
  ![31, v575.toNat, 0]
def cc0_transform_0 (i : grid0.Coords) : Fin 2 → Nat :=
  let arg0 : BitVec 32 := BitVec.ofNat 32 (i 0).val
  let c10_i32 : BitVec 32 := 10#32
  let v0 : BitVec 32 := Scalar.minsi arg0 c10_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c10_i32 : BitVec 32 := 10#32
  let v0 : BitVec 32 := Scalar.minsi arg0 c10_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c12_i32 : BitVec 32 := 12#32
  let v0 : BitVec 32 := Scalar.subi arg0 c12_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S192x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S192x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
variable {F : FTy → Type} [FloatOps F] [Named F]
def κ : String → Option EReal := fun
  | "neg" => some ⊥
  | _ => none
-- ==== ReferenceIdeal.lean ====
abbrev S1x2048x1024 : Shape := ⟨3, ![1, 2048, 1024]⟩
abbrev S1024x1024 : Shape := ⟨2, ![1024, 1024]⟩
abbrev S1024 : Shape := ⟨1, ![1024]⟩
abbrev S1024x2048 : Shape := ⟨2, ![1024, 2048]⟩
abbrev S2048 : Shape := ⟨1, ![2048]⟩
abbrev S1x1x1024 : Shape := ⟨3, ![1, 1, 1024]⟩
abbrev S1x2048x2048 : Shape := ⟨3, ![1, 2048, 2048]⟩
abbrev S1x1x2048 : Shape := ⟨3, ![1, 1, 2048]⟩
abbrev S1x2048x2x16x64 : Shape := ⟨5, ![1, 2048, 2, 16, 64]⟩
abbrev S2x1x16x2048x64 : Shape := ⟨5, ![2, 1, 16, 2048, 64]⟩
abbrev S1x1x16x2048x64 : Shape := ⟨5, ![1, 1, 16, 2048, 64]⟩
abbrev S1x16x2048x64 : Shape := ⟨4, ![1, 16, 2048, 64]⟩
abbrev S1x2048x16x64 : Shape := ⟨4, ![1, 2048, 16, 64]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S1x16x2048x2048 : Shape := ⟨4, ![1, 16, 2048, 2048]⟩
abbrev S1x1x2048x2048 : Shape := ⟨4, ![1, 1, 2048, 2048]⟩
abbrev S1x16x2048 : Shape := ⟨3, ![1, 16, 2048]⟩
abbrev S1x16x2048x1 : Shape := ⟨4, ![1, 16, 2048, 1]⟩

abbrev nBuf : Space → Nat
  | .hbm => 228
  | .vmem => 0
  | .smem => 0
  | _ => 0

abbrev hbmTy0_0 (i : Nat) : BufTy := match i % 128 with
  | 0 => ⟨S1x2048x1024, .f32⟩
  | 1 => ⟨S1x2048x1024, .f32⟩
  | 2 => ⟨S1024x1024, .f32⟩
  | 3 => ⟨S1024, .f32⟩
  | 4 => ⟨S1024x2048, .f32⟩
  | 5 => ⟨S2048, .f32⟩
  | 6 => ⟨S1024x1024, .f32⟩
  | 7 => ⟨S1024, .f32⟩
  | 8 => ⟨S1x2048x1024, .f32⟩
  | 9 => ⟨S1x1x1024, .f32⟩
  | 10 => ⟨S1x2048x1024, .f32⟩
  | 11 => ⟨S1x2048x1024, .f32⟩
  | 12 => ⟨S1x2048x2048, .f32⟩
  | 13 => ⟨S1x1x2048, .f32⟩
  | 14 => ⟨S1x2048x2048, .f32⟩
  | 15 => ⟨S1x2048x2048, .f32⟩
  | 16 => ⟨S1x2048x2x16x64, .f32⟩
  | 17 => ⟨S2x1x16x2048x64, .f32⟩
  | 18 => ⟨S1x1x16x2048x64, .f32⟩
  | 19 => ⟨S1x16x2048x64, .f32⟩
  | 20 => ⟨S1x1x16x2048x64, .f32⟩
  | 21 => ⟨S1x16x2048x64, .f32⟩
  | 22 => ⟨S1x2048x16x64, .f32⟩
  | 23 => ⟨S1x16x2048x64, .f32⟩
  | 24 => ⟨S2048, .i32⟩
  | 25 => ⟨S2048x1, .i32⟩
  | 26 => ⟨S2048, .i32⟩
  | 27 => ⟨S1x2048, .i32⟩
  | 28 => ⟨S2048x2048, .i32⟩
  | 29 => ⟨S2048x2048, .i32⟩
  | 30 => ⟨S2048x2048, .i32⟩
  | 31 => ⟨S2048x2048, .i32⟩
  | 32 => ⟨S_, .i32⟩
  | 33 => ⟨S2048x2048, .i32⟩
  | 34 => ⟨S2048x2048, .i1⟩
  | 35 => ⟨S_, .i32⟩
  | 36 => ⟨S_, .i32⟩
  | 37 => ⟨S_, .i32⟩
  | 38 => ⟨S_, .i1⟩
  | 39 => ⟨S_, .i32⟩
  | 40 => ⟨S_, .i32⟩
  | 41 => ⟨S1x2048, .i32⟩
  | 42 => ⟨S1x2048, .i32⟩
  | 43 => ⟨S_, .i32⟩
  | 44 => ⟨S1x2048, .i32⟩
  | 45 => ⟨S1x2048, .i1⟩
  | 46 => ⟨S_, .i32⟩
  | 47 => ⟨S1x2048, .i32⟩
  | 48 => ⟨S1x2048, .i1⟩
  | 49 => ⟨S_, .i32⟩
  | 50 => ⟨S_, .i1⟩
  | 51 => ⟨S1x2048, .i1⟩
  | 52 => ⟨S1x2048, .i1⟩
  | 53 => ⟨S1x2048, .i1⟩
  | 54 => ⟨S1x2048, .i32⟩
  | 55 => ⟨S1x2048, .i32⟩
  | 56 => ⟨S1x2048, .i32⟩
  | 57 => ⟨S_, .i32⟩
  | 58 => ⟨S1x2048, .i32⟩
  | 59 => ⟨S1x2048, .i1⟩
  | 60 => ⟨S2048x2048, .i1⟩
  | 61 => ⟨S2048x2048, .i1⟩
  | 62 => ⟨S_, .i32⟩
  | 63 => ⟨S_, .i32⟩
  | 64 => ⟨S_, .i32⟩
  | 65 => ⟨S_, .i1⟩
  | 66 => ⟨S_, .i32⟩
  | 67 => ⟨S_, .i32⟩
  | 68 => ⟨S1x2048, .i32⟩
  | 69 => ⟨S1x2048, .i32⟩
  | 70 => ⟨S_, .i32⟩
  | 71 => ⟨S1x2048, .i32⟩
  | 72 => ⟨S1x2048, .i1⟩
  | 73 => ⟨S_, .i32⟩
  | 74 => ⟨S1x2048, .i32⟩
  | 75 => ⟨S1x2048, .i1⟩
  | 76 => ⟨S_, .i32⟩
  | 77 => ⟨S_, .i1⟩
  | 78 => ⟨S1x2048, .i1⟩
  | 79 => ⟨S1x2048, .i1⟩
  | 80 => ⟨S1x2048, .i1⟩
  | 81 => ⟨S1x2048, .i32⟩
  | 82 => ⟨S1x2048, .i32⟩
  | 83 => ⟨S1x2048, .i32⟩
  | 84 => ⟨S_, .i32⟩
  | 85 => ⟨S1x2048, .i32⟩
  | 86 => ⟨S1x2048, .i1⟩
  | 87 => ⟨S2048x2048, .i1⟩
  | 88 => ⟨S2048x2048, .i1⟩
  | 89 => ⟨S_, .i32⟩
  | 90 => ⟨S_, .i32⟩
  | 91 => ⟨S_, .i32⟩
  | 92 => ⟨S_, .i1⟩
  | 93 => ⟨S_, .i32⟩
  | 94 => ⟨S_, .i32⟩
  | 95 => ⟨S1x2048, .i32⟩
  | 96 => ⟨S1x2048, .i32⟩
  | 97 => ⟨S_, .i32⟩
  | 98 => ⟨S1x2048, .i32⟩
  | 99 => ⟨S1x2048, .i1⟩
  | 100 => ⟨S_, .i32⟩
  | 101 => ⟨S1x2048, .i32⟩
  | 102 => ⟨S1x2048, .i1⟩
  | 103 => ⟨S_, .i32⟩
  | 104 => ⟨S_, .i1⟩
  | 105 => ⟨S1x2048, .i1⟩
  | 106 => ⟨S1x2048, .i1⟩
  | 107 => ⟨S1x2048, .i1⟩
  | 108 => ⟨S1x2048, .i32⟩
  | 109 => ⟨S1x2048, .i32⟩
  | 110 => ⟨S1x2048, .i32⟩
  | 111 => ⟨S_, .i32⟩
  | 112 => ⟨S1x2048, .i32⟩
  | 113 => ⟨S1x2048, .i1⟩
  | 114 => ⟨S2048x2048, .i1⟩
  | 115 => ⟨S2048x2048, .i1⟩
  | 116 => ⟨S_, .i32⟩
  | 117 => ⟨S_, .i32⟩
  | 118 => ⟨S_, .i32⟩
  | 119 => ⟨S_, .i1⟩
  | 120 => ⟨S_, .i32⟩
  | 121 => ⟨S_, .i32⟩
  | 122 => ⟨S1x2048, .i32⟩
  | 123 => ⟨S1x2048, .i32⟩
  | 124 => ⟨S_, .i32⟩
  | 125 => ⟨S1x2048, .i32⟩
  | 126 => ⟨S1x2048, .i1⟩
  | 127 => ⟨S_, .i32⟩
  | _ => ⟨S1x2048x1024, .f32⟩

abbrev hbmTy0_1 (i : Nat) : BufTy := match i % 128 with
  | 0 => ⟨S1x2048, .i32⟩
  | 1 => ⟨S1x2048, .i1⟩
  | 2 => ⟨S_, .i32⟩
  | 3 => ⟨S_, .i1⟩
  | 4 => ⟨S1x2048, .i1⟩
  | 5 => ⟨S1x2048, .i1⟩
  | 6 => ⟨S1x2048, .i1⟩
  | 7 => ⟨S1x2048, .i32⟩
  | 8 => ⟨S1x2048, .i32⟩
  | 9 => ⟨S1x2048, .i32⟩
  | 10 => ⟨S_, .i32⟩
  | 11 => ⟨S1x2048, .i32⟩
  | 12 => ⟨S1x2048, .i1⟩
  | 13 => ⟨S2048x2048, .i1⟩
  | 14 => ⟨S2048x2048, .i1⟩
  | 15 => ⟨S_, .i32⟩
  | 16 => ⟨S_, .i32⟩
  | 17 => ⟨S_, .i32⟩
  | 18 => ⟨S_, .i1⟩
  | 19 => ⟨S_, .i32⟩
  | 20 => ⟨S_, .i32⟩
  | 21 => ⟨S1x2048, .i32⟩
  | 22 => ⟨S1x2048, .i32⟩
  | 23 => ⟨S_, .i32⟩
  | 24 => ⟨S1x2048, .i32⟩
  | 25 => ⟨S1x2048, .i1⟩
  | 26 => ⟨S_, .i32⟩
  | 27 => ⟨S1x2048, .i32⟩
  | 28 => ⟨S1x2048, .i1⟩
  | 29 => ⟨S_, .i32⟩
  | 30 => ⟨S_, .i1⟩
  | 31 => ⟨S1x2048, .i1⟩
  | 32 => ⟨S1x2048, .i1⟩
  | 33 => ⟨S1x2048, .i1⟩
  | 34 => ⟨S1x2048, .i32⟩
  | 35 => ⟨S1x2048, .i32⟩
  | 36 => ⟨S1x2048, .i32⟩
  | 37 => ⟨S_, .i32⟩
  | 38 => ⟨S1x2048, .i32⟩
  | 39 => ⟨S1x2048, .i1⟩
  | 40 => ⟨S2048x2048, .i1⟩
  | 41 => ⟨S2048x2048, .i1⟩
  | 42 => ⟨S_, .i32⟩
  | 43 => ⟨S_, .i32⟩
  | 44 => ⟨S_, .i32⟩
  | 45 => ⟨S_, .i1⟩
  | 46 => ⟨S_, .i32⟩
  | 47 => ⟨S_, .i32⟩
  | 48 => ⟨S1x2048, .i32⟩
  | 49 => ⟨S1x2048, .i32⟩
  | 50 => ⟨S_, .i32⟩
  | 51 => ⟨S1x2048, .i32⟩
  | 52 => ⟨S1x2048, .i1⟩
  | 53 => ⟨S_, .i32⟩
  | 54 => ⟨S1x2048, .i32⟩
  | 55 => ⟨S1x2048, .i1⟩
  | 56 => ⟨S_, .i32⟩
  | 57 => ⟨S_, .i1⟩
  | 58 => ⟨S1x2048, .i1⟩
  | 59 => ⟨S1x2048, .i1⟩
  | 60 => ⟨S1x2048, .i1⟩
  | 61 => ⟨S1x2048, .i32⟩
  | 62 => ⟨S1x2048, .i32⟩
  | 63 => ⟨S1x2048, .i32⟩
  | 64 => ⟨S_, .i32⟩
  | 65 => ⟨S1x2048, .i32⟩
  | 66 => ⟨S1x2048, .i1⟩
  | 67 => ⟨S2048x2048, .i1⟩
  | 68 => ⟨S2048x2048, .i1⟩
  | 69 => ⟨S1x16x2048x2048, .f32⟩
  | 70 => ⟨S_, .f32⟩
  | 71 => ⟨S1x16x2048x2048, .f32⟩
  | 72 => ⟨S1x16x2048x2048, .f32⟩
  | 73 => ⟨S1x1x2048x2048, .i1⟩
  | 74 => ⟨S_, .f32⟩
  | 75 => ⟨S_, .f32⟩
  | 76 => ⟨S1x16x2048x2048, .i1⟩
  | 77 => ⟨S1x16x2048x2048, .f32⟩
  | 78 => ⟨S1x16x2048x2048, .f32⟩
  | 79 => ⟨S_, .f32⟩
  | 80 => ⟨S1x16x2048, .f32⟩
  | 81 => ⟨S_, .f32⟩
  | 82 => ⟨S1x16x2048, .f32⟩
  | 83 => ⟨S1x16x2048, .f32⟩
  | 84 => ⟨S1x16x2048x1, .f32⟩
  | 85 => ⟨S1x16x2048x2048, .f32⟩
  | 86 => ⟨S1x16x2048x2048, .f32⟩
  | 87 => ⟨S1x16x2048x2048, .f32⟩
  | 88 => ⟨S_, .f32⟩
  | 89 => ⟨S1x16x2048, .f32⟩
  | 90 => ⟨S1x16x2048x1, .f32⟩
  | 91 => ⟨S1x16x2048x2048, .f32⟩
  | 92 => ⟨S1x16x2048x2048, .f32⟩
  | 93 => ⟨S1x16x2048x64, .f32⟩
  | 94 => ⟨S1x2048x16x64, .f32⟩
  | 95 => ⟨S1x2048x1024, .f32⟩
  | 96 => ⟨S1x2048x1024, .f32⟩
  | 97 => ⟨S1x1x1024, .f32⟩
  | 98 => ⟨S1x2048x1024, .f32⟩
  | 99 => ⟨S1x2048x1024, .f32⟩
  | _ => ⟨S1x2048x1024, .f32⟩

abbrev hbmTy (i : Nat) : BufTy := match i / 128 with
  | 0 => hbmTy0_0 i
  | 1 => hbmTy0_1 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c : Ref sig .tc := ⟨.hbm, 32, rfl⟩
abbrev main_v24 : Ref sig .tc := ⟨.hbm, 33, rfl⟩
abbrev main_v25 : Ref sig .tc := ⟨.hbm, 34, rfl⟩
abbrev main_c_0 : Ref sig .tc := ⟨.hbm, 35, rfl⟩
abbrev main_call0_v0 : Ref sig .tc := ⟨.hbm, 36, rfl⟩
abbrev main_call0_c : Ref sig .tc := ⟨.hbm, 37, rfl⟩
abbrev main_call0_v1 : Ref sig .tc := ⟨.hbm, 38, rfl⟩
abbrev main_call0_c_0 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_call0_c_1 : Ref sig .tc := ⟨.hbm, 43, rfl⟩
abbrev main_call0_v5 : Ref sig .tc := ⟨.hbm, 44, rfl⟩
abbrev main_call0_v6 : Ref sig .tc := ⟨.hbm, 45, rfl⟩
abbrev main_call0_c_2 : Ref sig .tc := ⟨.hbm, 46, rfl⟩
abbrev main_call0_v7 : Ref sig .tc := ⟨.hbm, 47, rfl⟩
abbrev main_call0_v8 : Ref sig .tc := ⟨.hbm, 48, rfl⟩
abbrev main_call0_c_3 : Ref sig .tc := ⟨.hbm, 49, rfl⟩
abbrev main_call0_v9 : Ref sig .tc := ⟨.hbm, 50, rfl⟩
abbrev main_call0_v10 : Ref sig .tc := ⟨.hbm, 51, rfl⟩
abbrev main_call0_v11 : Ref sig .tc := ⟨.hbm, 52, rfl⟩
abbrev main_call0_v12 : Ref sig .tc := ⟨.hbm, 53, rfl⟩
abbrev main_call0_v13 : Ref sig .tc := ⟨.hbm, 54, rfl⟩
abbrev main_call0_v14 : Ref sig .tc := ⟨.hbm, 55, rfl⟩
abbrev main_v26 : Ref sig .tc := ⟨.hbm, 56, rfl⟩
abbrev main_c_1 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_c_2 : Ref sig .tc := ⟨.hbm, 62, rfl⟩
abbrev main_call1_v0 : Ref sig .tc := ⟨.hbm, 63, rfl⟩
abbrev main_call1_c : Ref sig .tc := ⟨.hbm, 64, rfl⟩
abbrev main_call1_v1 : Ref sig .tc := ⟨.hbm, 65, rfl⟩
abbrev main_call1_c_0 : Ref sig .tc := ⟨.hbm, 66, rfl⟩
abbrev main_call1_v2 : Ref sig .tc := ⟨.hbm, 67, rfl⟩
abbrev main_call1_v3 : Ref sig .tc := ⟨.hbm, 68, rfl⟩
abbrev main_call1_v4 : Ref sig .tc := ⟨.hbm, 69, rfl⟩
abbrev main_call1_c_1 : Ref sig .tc := ⟨.hbm, 70, rfl⟩
abbrev main_call1_v5 : Ref sig .tc := ⟨.hbm, 71, rfl⟩
abbrev main_call1_v6 : Ref sig .tc := ⟨.hbm, 72, rfl⟩
abbrev main_call1_c_2 : Ref sig .tc := ⟨.hbm, 73, rfl⟩
abbrev main_call1_v7 : Ref sig .tc := ⟨.hbm, 74, rfl⟩
abbrev main_call1_v8 : Ref sig .tc := ⟨.hbm, 75, rfl⟩
abbrev main_call1_c_3 : Ref sig .tc := ⟨.hbm, 76, rfl⟩
abbrev main_call1_v9 : Ref sig .tc := ⟨.hbm, 77, rfl⟩
abbrev main_call1_v10 : Ref sig .tc := ⟨.hbm, 78, rfl⟩
abbrev main_call1_v11 : Ref sig .tc := ⟨.hbm, 79, rfl⟩
abbrev main_call1_v12 : Ref sig .tc := ⟨.hbm, 80, rfl⟩
abbrev main_call1_v13 : Ref sig .tc := ⟨.hbm, 81, rfl⟩
abbrev main_call1_v14 : Ref sig .tc := ⟨.hbm, 82, rfl⟩
abbrev main_v31 : Ref sig .tc := ⟨.hbm, 83, rfl⟩
abbrev main_c_3 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_v35 : Ref sig .tc := ⟨.hbm, 88, rfl⟩
abbrev main_c_4 : Ref sig .tc := ⟨.hbm, 89, rfl⟩
abbrev main_call2_v0 : Ref sig .tc := ⟨.hbm, 90, rfl⟩
abbrev main_call2_c : Ref sig .tc := ⟨.hbm, 91, rfl⟩
abbrev main_call2_v1 : Ref sig .tc := ⟨.hbm, 92, rfl⟩
abbrev main_call2_c_0 : Ref sig .tc := ⟨.hbm, 93, rfl⟩
abbrev main_call2_v2 : Ref sig .tc := ⟨.hbm, 94, rfl⟩
abbrev main_call2_v3 : Ref sig .tc := ⟨.hbm, 95, rfl⟩
abbrev main_call2_v4 : Ref sig .tc := ⟨.hbm, 96, rfl⟩
abbrev main_call2_c_1 : Ref sig .tc := ⟨.hbm, 97, rfl⟩
abbrev main_call2_v5 : Ref sig .tc := ⟨.hbm, 98, rfl⟩
abbrev main_call2_v6 : Ref sig .tc := ⟨.hbm, 99, rfl⟩
abbrev main_call2_c_2 : Ref sig .tc := ⟨.hbm, 100, rfl⟩
abbrev main_call2_v7 : Ref sig .tc := ⟨.hbm, 101, rfl⟩
abbrev main_call2_v8 : Ref sig .tc := ⟨.hbm, 102, rfl⟩
abbrev main_call2_c_3 : Ref sig .tc := ⟨.hbm, 103, rfl⟩
abbrev main_call2_v9 : Ref sig .tc := ⟨.hbm, 104, rfl⟩
abbrev main_call2_v10 : Ref sig .tc := ⟨.hbm, 105, rfl⟩
abbrev main_call2_v11 : Ref sig .tc := ⟨.hbm, 106, rfl⟩
abbrev main_call2_v12 : Ref sig .tc := ⟨.hbm, 107, rfl⟩
abbrev main_call2_v13 : Ref sig .tc := ⟨.hbm, 108, rfl⟩
abbrev main_call2_v14 : Ref sig .tc := ⟨.hbm, 109, rfl⟩
abbrev main_v36 : Ref sig .tc := ⟨.hbm, 110, rfl⟩
abbrev main_c_5 : Ref sig .tc := ⟨.hbm, 111, rfl⟩
abbrev main_v37 : Ref sig .tc := ⟨.hbm, 112, rfl⟩
abbrev main_v38 : Ref sig .tc := ⟨.hbm, 113, rfl⟩
abbrev main_v39 : Ref sig .tc := ⟨.hbm, 114, rfl⟩
abbrev main_v40 : Ref sig .tc := ⟨.hbm, 115, rfl⟩
abbrev main_c_6 : Ref sig .tc := ⟨.hbm, 116, rfl⟩
abbrev main_call3_v0 : Ref sig .tc := ⟨.hbm, 117, rfl⟩
abbrev main_call3_c : Ref sig .tc := ⟨.hbm, 118, rfl⟩
abbrev main_call3_v1 : Ref sig .tc := ⟨.hbm, 119, rfl⟩
abbrev main_call3_c_0 : Ref sig .tc := ⟨.hbm, 120, rfl⟩
abbrev main_call3_v2 : Ref sig .tc := ⟨.hbm, 121, rfl⟩
abbrev main_call3_v3 : Ref sig .tc := ⟨.hbm, 122, rfl⟩
abbrev main_call3_v4 : Ref sig .tc := ⟨.hbm, 123, rfl⟩
abbrev main_call3_c_1 : Ref sig .tc := ⟨.hbm, 124, rfl⟩
abbrev main_call3_v5 : Ref sig .tc := ⟨.hbm, 125, rfl⟩
abbrev main_call3_v6 : Ref sig .tc := ⟨.hbm, 126, rfl⟩
abbrev main_call3_c_2 : Ref sig .tc := ⟨.hbm, 127, rfl⟩
abbrev main_call3_v7 : Ref sig .tc := ⟨.hbm, 128, rfl⟩
abbrev main_call3_v8 : Ref sig .tc := ⟨.hbm, 129, rfl⟩
abbrev main_call3_c_3 : Ref sig .tc := ⟨.hbm, 130, rfl⟩
abbrev main_call3_v9 : Ref sig .tc := ⟨.hbm, 131, rfl⟩
abbrev main_call3_v10 : Ref sig .tc := ⟨.hbm, 132, rfl⟩
abbrev main_call3_v11 : Ref sig .tc := ⟨.hbm, 133, rfl⟩
abbrev main_call3_v12 : Ref sig .tc := ⟨.hbm, 134, rfl⟩
abbrev main_call3_v13 : Ref sig .tc := ⟨.hbm, 135, rfl⟩
abbrev main_call3_v14 : Ref sig .tc := ⟨.hbm, 136, rfl⟩
abbrev main_v41 : Ref sig .tc := ⟨.hbm, 137, rfl⟩
abbrev main_c_7 : Ref sig .tc := ⟨.hbm, 138, rfl⟩
abbrev main_v42 : Ref sig .tc := ⟨.hbm, 139, rfl⟩
abbrev main_v43 : Ref sig .tc := ⟨.hbm, 140, rfl⟩
abbrev main_v44 : Ref sig .tc := ⟨.hbm, 141, rfl⟩
abbrev main_v45 : Ref sig .tc := ⟨.hbm, 142, rfl⟩
abbrev main_c_8 : Ref sig .tc := ⟨.hbm, 143, rfl⟩
abbrev main_call4_v0 : Ref sig .tc := ⟨.hbm, 144, rfl⟩
abbrev main_call4_c : Ref sig .tc := ⟨.hbm, 145, rfl⟩
abbrev main_call4_v1 : Ref sig .tc := ⟨.hbm, 146, rfl⟩
abbrev main_call4_c_0 : Ref sig .tc := ⟨.hbm, 147, rfl⟩
abbrev main_call4_v2 : Ref sig .tc := ⟨.hbm, 148, rfl⟩
abbrev main_call4_v3 : Ref sig .tc := ⟨.hbm, 149, rfl⟩
abbrev main_call4_v4 : Ref sig .tc := ⟨.hbm, 150, rfl⟩
abbrev main_call4_c_1 : Ref sig .tc := ⟨.hbm, 151, rfl⟩
abbrev main_call4_v5 : Ref sig .tc := ⟨.hbm, 152, rfl⟩
abbrev main_call4_v6 : Ref sig .tc := ⟨.hbm, 153, rfl⟩
abbrev main_call4_c_2 : Ref sig .tc := ⟨.hbm, 154, rfl⟩
abbrev main_call4_v7 : Ref sig .tc := ⟨.hbm, 155, rfl⟩
abbrev main_call4_v8 : Ref sig .tc := ⟨.hbm, 156, rfl⟩
abbrev main_call4_c_3 : Ref sig .tc := ⟨.hbm, 157, rfl⟩
abbrev main_call4_v9 : Ref sig .tc := ⟨.hbm, 158, rfl⟩
abbrev main_call4_v10 : Ref sig .tc := ⟨.hbm, 159, rfl⟩
abbrev main_call4_v11 : Ref sig .tc := ⟨.hbm, 160, rfl⟩
abbrev main_call4_v12 : Ref sig .tc := ⟨.hbm, 161, rfl⟩
abbrev main_call4_v13 : Ref sig .tc := ⟨.hbm, 162, rfl⟩
abbrev main_call4_v14 : Ref sig .tc := ⟨.hbm, 163, rfl⟩
abbrev main_v46 : Ref sig .tc := ⟨.hbm, 164, rfl⟩
abbrev main_c_9 : Ref sig .tc := ⟨.hbm, 165, rfl⟩
abbrev main_v47 : Ref sig .tc := ⟨.hbm, 166, rfl⟩
abbrev main_v48 : Ref sig .tc := ⟨.hbm, 167, rfl⟩
abbrev main_v49 : Ref sig .tc := ⟨.hbm, 168, rfl⟩
abbrev main_v50 : Ref sig .tc := ⟨.hbm, 169, rfl⟩
abbrev main_c_10 : Ref sig .tc := ⟨.hbm, 170, rfl⟩
abbrev main_call5_v0 : Ref sig .tc := ⟨.hbm, 171, rfl⟩
abbrev main_call5_c : Ref sig .tc := ⟨.hbm, 172, rfl⟩
abbrev main_call5_v1 : Ref sig .tc := ⟨.hbm, 173, rfl⟩
abbrev main_call5_c_0 : Ref sig .tc := ⟨.hbm, 174, rfl⟩
abbrev main_call5_v2 : Ref sig .tc := ⟨.hbm, 175, rfl⟩
abbrev main_call5_v3 : Ref sig .tc := ⟨.hbm, 176, rfl⟩
abbrev main_call5_v4 : Ref sig .tc := ⟨.hbm, 177, rfl⟩
abbrev main_call5_c_1 : Ref sig .tc := ⟨.hbm, 178, rfl⟩
abbrev main_call5_v5 : Ref sig .tc := ⟨.hbm, 179, rfl⟩
abbrev main_call5_v6 : Ref sig .tc := ⟨.hbm, 180, rfl⟩
abbrev main_call5_c_2 : Ref sig .tc := ⟨.hbm, 181, rfl⟩
abbrev main_call5_v7 : Ref sig .tc := ⟨.hbm, 182, rfl⟩
abbrev main_call5_v8 : Ref sig .tc := ⟨.hbm, 183, rfl⟩
abbrev main_call5_c_3 : Ref sig .tc := ⟨.hbm, 184, rfl⟩
abbrev main_call5_v9 : Ref sig .tc := ⟨.hbm, 185, rfl⟩
abbrev main_call5_v10 : Ref sig .tc := ⟨.hbm, 186, rfl⟩
abbrev main_call5_v11 : Ref sig .tc := ⟨.hbm, 187, rfl⟩
abbrev main_call5_v12 : Ref sig .tc := ⟨.hbm, 188, rfl⟩
abbrev main_call5_v13 : Ref sig .tc := ⟨.hbm, 189, rfl⟩
abbrev main_call5_v14 : Ref sig .tc := ⟨.hbm, 190, rfl⟩
abbrev main_v51 : Ref sig .tc := ⟨.hbm, 191, rfl⟩
abbrev main_c_11 : Ref sig .tc := ⟨.hbm, 192, rfl⟩
abbrev main_v52 : Ref sig .tc := ⟨.hbm, 193, rfl⟩
abbrev main_v53 : Ref sig .tc := ⟨.hbm, 194, rfl⟩
abbrev main_v54 : Ref sig .tc := ⟨.hbm, 195, rfl⟩
abbrev main_v55 : Ref sig .tc := ⟨.hbm, 196, rfl⟩
abbrev main_v56 : Ref sig .tc := ⟨.hbm, 197, rfl⟩
abbrev main_cst : Ref sig .tc := ⟨.hbm, 198, rfl⟩
abbrev main_v57 : Ref sig .tc := ⟨.hbm, 199, rfl⟩
abbrev main_v58 : Ref sig .tc := ⟨.hbm, 200, rfl⟩
abbrev main_v59 : Ref sig .tc := ⟨.hbm, 201, rfl⟩
abbrev main_cst_12 : Ref sig .tc := ⟨.hbm, 202, rfl⟩
abbrev main_call6_v0 : Ref sig .tc := ⟨.hbm, 203, rfl⟩
abbrev main_call6_v1 : Ref sig .tc := ⟨.hbm, 204, rfl⟩
abbrev main_call6_v2 : Ref sig .tc := ⟨.hbm, 205, rfl⟩
abbrev main_v60 : Ref sig .tc := ⟨.hbm, 206, rfl⟩
abbrev main_cst_13 : Ref sig .tc := ⟨.hbm, 207, rfl⟩
abbrev main_v61 : Ref sig .tc := ⟨.hbm, 208, rfl⟩
abbrev main_cst_14 : Ref sig .tc := ⟨.hbm, 209, rfl⟩
abbrev main_v62 : Ref sig .tc := ⟨.hbm, 210, rfl⟩
abbrev main_v63 : Ref sig .tc := ⟨.hbm, 211, rfl⟩
abbrev main_v64 : Ref sig .tc := ⟨.hbm, 212, rfl⟩
abbrev main_v65 : Ref sig .tc := ⟨.hbm, 213, rfl⟩
abbrev main_v66 : Ref sig .tc := ⟨.hbm, 214, rfl⟩
abbrev main_v67 : Ref sig .tc := ⟨.hbm, 215, rfl⟩
abbrev main_cst_15 : Ref sig .tc := ⟨.hbm, 216, rfl⟩
abbrev main_v68 : Ref sig .tc := ⟨.hbm, 217, rfl⟩
abbrev main_v69 : Ref sig .tc := ⟨.hbm, 218, rfl⟩
abbrev main_v70 : Ref sig .tc := ⟨.hbm, 219, rfl⟩
abbrev main_v71 : Ref sig .tc := ⟨.hbm, 220, rfl⟩
abbrev main_v72 : Ref sig .tc := ⟨.hbm, 221, rfl⟩
abbrev main_v73 : Ref sig .tc := ⟨.hbm, 222, rfl⟩
abbrev main_v74 : Ref sig .tc := ⟨.hbm, 223, rfl⟩
abbrev main_v75 : Ref sig .tc := ⟨.hbm, 224, rfl⟩
abbrev main_v76 : Ref sig .tc := ⟨.hbm, 225, rfl⟩
abbrev main_v77 : Ref sig .tc := ⟨.hbm, 226, rfl⟩
abbrev main_v78 : Ref sig .tc := ⟨.hbm, 227, rfl⟩

abbrev nD : Nat := 1
abbrev τ : Topo := Topo.v7x

variable {F : FTy → Type} [FloatOps F]
-- ==== Proof.KernelFrame.lean ====
/- The frame of the compiled kernel: it runs to its end on every input, leaves its arguments as they were and every
   semaphore counter at zero. Nothing is said here of what it computes: every staging buffer and every scratch
   buffer is held at contents nothing names. -/
module

public import proofs.«01_k».proof.Defs
public import proofs.«01_k».proof.Proof.Gen.Kernel.Frame
public import proofs.«01_k».proof.Proof.Gen.Kernel.Skeleton
public import proofs.«01_k».proof.Proof.Gen.Kernel.Launch
public import proofs.«01_k».proof.Proof.Gen.Kernel.Points
public import Idealize.ShloMosaic.Lib.Pipeline.FrameSuffix
public import Idealize.ShloMosaic.Lib.Pipeline.FrameBody
public import Idealize.ShloMosaic.Lib.Tactic

@[expose] public section

noncomputable section

namespace Cert.Kernel.Own

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- A memref owned whole at contents nothing names. -/
abbrev some' (c : Dev nD) {sp : Space} {S : Shape} {e : EltTy} (M : Memref sig .tc sp S e) : sProp 𝕄 :=
  iprop(∃ d, owns (c : Thread nD τ) M fullShare d)

/-- The condition of the first branch: the point is the grid's first. -/
abbrev isFirst (i : grid0.Coords) : Prop :=
  Scalar.cmpi .ne (Scalar.extui (Scalar.cmpi .eq (BitVec.ofNat 32 (i 0).val) 0#32) : BitVec 32) 0#32 = 1#1

/-- The three kinds of points: the first casts the weights and projects, the others below twelve project, the rest
    compute a block of the result. -/
theorem point_cases (t : Fin cfg0.N) :
    (isFirst (grid0.coords t) ∧ k0_cond2 (grid0.coords t) = 1#1 ∧ ¬ k0_cond3 (grid0.coords t) = 1#1)
    ∨ (¬ isFirst (grid0.coords t) ∧ k0_cond2 (grid0.coords t) = 1#1 ∧ ¬ k0_cond3 (grid0.coords t) = 1#1)
    ∨ (¬ isFirst (grid0.coords t) ∧ ¬ k0_cond2 (grid0.coords t) = 1#1 ∧ k0_cond3 (grid0.coords t) = 1#1) := by
  revert t; decide +kernel

section Body

variable (c : Dev nD) (i : grid0.Coords)
  (arg1 : Memref sig .tc .vmem S192x1024 .f32) (harg1 : arg1.IsWhole)
  (arg2 : Memref sig .tc .vmem S192x1024 .f32) (harg2 : arg2.IsWhole)
  (arg3 : Memref sig .tc .vmem S1024x1024 .f32) (harg3 : arg3.IsWhole)
  (arg4 : Memref sig .tc .vmem S1x1024 .f32) (harg4 : arg4.IsWhole)
  (arg5 : Memref sig .tc .vmem S1024x2048 .f32) (harg5 : arg5.IsWhole)
  (arg6 : Memref sig .tc .vmem S1x2048 .f32) (harg6 : arg6.IsWhole)
  (arg7 : Memref sig .tc .vmem S1024x1024 .f32) (harg7 : arg7.IsWhole)
  (arg8 : Memref sig .tc .vmem S1x1024 .f32) (harg8 : arg8.IsWhole)
  (arg9 : Memref sig .tc .vmem S256x1024 .f32) (harg9 : arg9.IsWhole)
  (arg10 : Memref sig .tc .vmem S2112x1024 .bf16) (harg10 : arg10.IsWhole)
  (arg11 : Memref sig .tc .vmem S32x2112x64 .bf16) (harg11 : arg11.IsWhole)
  (arg12 : Memref sig .tc .vmem S32x768x64 .bf16) (harg12 : arg12.IsWhole)
  (arg13 : Memref sig .tc .vmem S1024x1024 .bf16) (harg13 : arg13.IsWhole)
  (arg14 : Memref sig .tc .vmem S1024x2048 .bf16) (harg14 : arg14.IsWhole)
  (arg15 : Memref sig .tc .vmem S1024x1024 .bf16) (harg15 : arg15.IsWhole)

/-- Everything the body may touch, each buffer at contents nothing names. -/
abbrev held : sProp 𝕄 :=
  iprop(some' (F := F) c arg1 ∗ some' (F := F) c arg2 ∗ some' (F := F) c arg3 ∗ some' (F := F) c arg4 ∗ some' (F := F) c arg5
    ∗ some' (F := F) c arg6 ∗ some' (F := F) c arg7 ∗ some' (F := F) c arg8 ∗ some' (F := F) c arg9 ∗ some' (F := F) c arg10
    ∗ some' (F := F) c arg11 ∗ some' (F := F) c arg12 ∗ some' (F := F) c arg13 ∗ some' (F := F) c arg14 ∗ some' (F := F) c arg15)

/-- The body at the point `i` runs to its return, handing back what it was given. -/
theorem body_runs (hi : (isFirst i ∧ k0_cond2 i = 1#1 ∧ ¬ k0_cond3 i = 1#1) ∨ (¬ isFirst i ∧ k0_cond2 i = 1#1 ∧ ¬ k0_cond3 i = 1#1)
      ∨ (¬ isFirst i ∧ ¬ k0_cond2 i = 1#1 ∧ k0_cond3 i = 1#1)) (K : PUnit → sProp 𝕄) :
    iprop(held (F := F) c arg1 arg2 arg3 arg4 arg5 arg6 arg7 arg8 arg9 arg10 arg11 arg12 arg13 arg14 arg15
        ∗ (held (F := F) c arg1 arg2 arg3 arg4 arg5 arg6 arg7 arg8 arg9 arg10 arg11 arg12 arg13 arg14 arg15 -∗ K ⟨⟩))
      ⊢ wp frame (wpE (defs₀ (F := F)) Variants.none c none) Set.univ
          (cc0__fused_body i arg1 harg1 arg2 harg2 arg3 harg3 arg4 harg4 arg5 harg5 arg6 harg6 arg7 harg7 arg8 harg8 arg9 harg9
            arg10 harg10 arg11 harg11 arg12 harg12 arg13 harg13 arg14 harg14 arg15 harg15) K := by
  unfold held some' owns
  simp only [cc0__fused_body_eq_skeleton]; unfold cc0__fused_body_skel
  rcases hi with ⟨h1, h2, h3⟩ | ⟨h1, h2, h3⟩ | ⟨h1, h2, h3⟩
  all_goals
    iintro ⟨⟨⟨%d1, %f1, -, H1⟩, ⟨%d2, %f2, -, H2⟩, ⟨%d3, %f3, -, H3⟩, ⟨%d4, %f4, -, H4⟩, ⟨%d5, %f5, -, H5⟩, ⟨%d6, %f6, -, H6⟩,
      ⟨%d7, %f7, -, H7⟩, ⟨%d8, %f8, -, H8⟩, ⟨%d9, %f9, -, H9⟩, ⟨%e0, %g0, -, S0⟩, ⟨%e1, %g1, -, S1⟩, ⟨%e2, %g2, -, S2⟩, ⟨%e3, %g3, -, S3⟩,
      ⟨%e4, %g4, -, S4⟩, ⟨%e5, %g5, -, S5⟩⟩, Hk⟩
    sl_exec
    sl_step
    iapply Hk
    isplitl [H1]; · iexists _, _; isplitr; swap; · iexact H1
                    ipureintro; rfl
    isplitl [H2]; · iexists _, _; isplitr; swap; · iexact H2
                    ipureintro; rfl
    isplitl [H3]; · iexists _, _; isplitr; swap; · iexact H3
                    ipureintro; rfl
    isplitl [H4]; · iexists _, _; isplitr; swap; · iexact H4
                    ipureintro; rfl
    isplitl [H5]; · iexists _, _; isplitr; swap; · iexact H5
                    ipureintro; rfl
    isplitl [H6]; · iexists _, _; isplitr; swap; · iexact H6
                    ipureintro; rfl
    isplitl [H7]; · iexists _, _; isplitr; swap; · iexact H7
                    ipureintro; rfl
    isplitl [H8]; · iexists _, _; isplitr; swap; · iexact H8
                    ipureintro; rfl
    isplitl [H9]; · iexists _, _; isplitr; swap; · iexact H9
                    ipureintro; rfl
    isplitl [S0]; · iexists _, _; isplitr; swap; · iexact S0
                    ipureintro; rfl
    isplitl [S1]; · iexists _, _; isplitr; swap; · iexact S1
                    ipureintro; rfl
    isplitl [S2]; · iexists _, _; isplitr; swap; · iexact S2
                    ipureintro; rfl
    isplitl [S3]; · iexists _, _; isplitr; swap; · iexact S3
                    ipureintro; rfl
    isplitl [S4]; · iexists _, _; isplitr; swap; · iexact S4
                    ipureintro; rfl
    iexists _, _; isplitr; swap; · iexact S5
    ipureintro; rfl

end Body

/-! ## The launch -/

/-- Every window is forgotten: the frame reads nothing the body leaves in a staging buffer. -/
def forgets : Fin 9 → Bool := fun _ => true

/-- The proof data on core `c`: the arrays as the region finds them, the scratch at contents nothing names. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

/-- What a point's body is called with, and hands back. -/
def pointHeld (c : Dev nD) (t : Fin cfg0.N) : sProp 𝕄 :=
  iprop(Pipeline.ΦA spec0 c ∗ (dats m 0 c).owesAt () t.castSucc
    ∗ (some' (F := F) c (st0_0 t) ∗ some' (F := F) c (st0_1 t) ∗ some' (F := F) c (st0_2 t) ∗ some' (F := F) c (st0_3 t)
      ∗ some' (F := F) c (st0_4 t) ∗ some' (F := F) c (st0_5 t) ∗ some' (F := F) c (st0_6 t) ∗ some' (F := F) c (st0_7 t)
      ∗ some' (F := F) c (st0_8 t)))

/-- The body at a point of the grid. -/
theorem point_runs (c : Dev nD) (t : Fin cfg0.N) :
    pointHeld m c t ⊢ wp frame (wpE (defs₀ (F := F)) Variants.none c none) Set.univ (bodyAt0 t) (fun _ => pointHeld m c t) := by
  unfold pointHeld Pipeline.ΦA
  rw [scopedRest0_eq]
  simp only [← owns_whole]
  iintro ⟨⟨⟨S0, S1, S2, S3, S4, S5⟩, Hg⟩, Ho, ⟨H0, H1, H2, H3, H4, H5, H6, H7, H8⟩⟩
  iapply (body_runs (F := F) c (grid0.coords t) _ _ _ _ _ _ _ _ _ _ _ _ _ _ _ _ _ _ _ _ _ _ _ _ _ _ _ _ _ _ (point_cases t) _)
  isplitl [H0 H1 H2 H3 H4 H5 H6 H7 H8 S0 S1 S2 S3 S4 S5]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [S0]; · iexact S0
    isplitl [S1]; · iexact S1
    isplitl [S2]; · iexact S2
    isplitl [S3]; · iexact S3
    isplitl [S4]; · iexact S4
    iexact S5
  iintro ⟨H0, H1, H2, H3, H4, H5, H6, H7, H8, S0, S1, S2, S3, S4, S5⟩
  isplitl [S0 S1 S2 S3 S4 S5 Hg]
  · isplitl [S0 S1 S2 S3 S4 S5]
    · isplitl [S0]; · iexact S0
      isplitl [S1]; · iexact S1
      isplitl [S2]; · iexact S2
      isplitl [S3]; · iexact S3
      isplitl [S4]; · iexact S4
      iexact S5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at the point is the body as the pipeline calls it. -/
theorem defs₀_row (t : Fin cfg0.N) : defs₀ (F := F) .tc cfg0.body (cfg0.bodyArgs t (cfg0.slots t)) = bodyAt0 t := by
  unfold defs₀; rw [Defs.onTc_tc]

/-- The library's body obligation, every window forgotten. -/
theorem body_obligation (c : Dev nD) :
    BodyObligationLoose (dats (F := F) m 0 c) (defs₀ (F := F)) Variants.none () Set.univ forgets := fun t => by
  rw [bigSep_W0, bigSep_W0, defs₀_row]
  exact triple_restated (point_runs m c t) rfl .rfl fun _ => .rfl

/-- The lines after the region write `main_v6` only. -/
theorem sfx_writes : ∀ ops ∈ ([hostOps1] : List (List (HloOp τ sig (Elt F)))), ∀ op ∈ ops, ∀ b : Ref sig .tc,
    Proc.devRef .tc b ∈ op.writes → b ∈ ({main_v6} : Finset (Ref sig .tc)) := by
  intro ops hops op hop b hb
  simp only [List.mem_cons, List.mem_nil_iff, or_false] at hops
  rcases hops with rfl
  simp only [hostOps1, List.mem_cons, List.mem_nil_iff, or_false] at hop
  rcases hop with rfl
  simp only [StableHlo.reshape_writes, Finset.mem_singleton] at hb
  simp only [Finset.mem_singleton]
  by_contra hne
  exact StableHlo.devRef_ne_of_ne hne hb

-- the launch theorem's implicit arguments are found by unifying its conclusion with this statement
set_option backward.isDefEq.respectTransparency.types false in
/-- At any values, from any memory with zero counters, every fair run of @main terminates; every array of an input
    window and every buffer no window stages, but the result, ends as the region found it, and every counter at zero. -/
theorem run_main :
    θ_run defs (onTc (τ := τ) (main (F := F))) (s₀ m ρ)
      (fun r => Pipeline.RDat.FramePostR (cfgs 0) (fun c => (dats m 0 c).toRForget forgets) {main_v6} (V m) r ∧ r.2.sem = fun _ => 0) :=
  Pipeline.θ_run_frame_around_T_forget (Q' := _) cfgs (dats m) (0 : Fin 1) launch0 defs₀ Variants.none forgets {main_v6} m ρ main
    (hbody := body_obligation m) (hshare := fun c => (dats m 0 c).share_full fun _ => rfl)
    (howed := fun _ _ => rfl) (V₀ := V0 m) (opss := [hostOps1]) (hsub := sfx_sub) (hfresh := sfx_fresh) (hkeep := sfx_keeps)
    (hT := sfx_writes) (hmain := hmain m Variants.none) (hA := fun _ _ => rfl) (hΦ := fun _ _ => rfl)

/-- A buffer the region neither stages nor the later lines write ends as launched, given that it was entered so. -/
theorem kept {b : Ref sig .tc} {r : PUnit × MemSt nD τ sig (Elt F)} {c : Dev nD}
    (h : Pipeline.RDat.FramePostR (cfgs 0) (fun c => (dats m 0 c).toRForget forgets) {main_v6} (V m) r)
    (hb : b ∈ Pipeline.restRefs sig spec0 \ {main_v6}) (hV : V m c b = m ((c : Thread nD τ).loc b)) :
    r.2.mem ((c.tc : Thread nD τ).loc b) = m ((c : Thread nD τ).loc b) := ((h c).2 b hb).trans hV

/-- The frame of the compiled kernel. -/
theorem frame : Cert.quiescent_Kernel := by
  intro m ρ _
  refine (θ_run defs _ _).mono (fun r h => ⟨fun c => ⟨kept m h.1 (by decide) (V_main_arg0 m c), kept m h.1 (by decide) (V_main_arg1 m c),
    (h.1.arr_in c 2 rfl).trans (V_main_arg2 m c), kept m h.1 (by decide) (V_main_arg3 m c), (h.1.arr_in c 4 rfl).trans (V_main_arg4 m c),
    kept m h.1 (by decide) (V_main_arg5 m c), (h.1.arr_in c 6 rfl).trans (V_main_arg6 m c), kept m h.1 (by decide) (V_main_arg7 m c)⟩, h.2⟩)
    (run_main (F := Bits) m ρ)

end Cert.Kernel.Own

end
-- ==== Proof.KernelIdealBody.lean ====
/- The idealized kernel's body at one point of the grid, with the contents of every buffer named: what a projecting
   point and a result point leave in the scratch buffers and in the result's block, as functions of what they find. -/
module

public import proofs.«01_k».proof.Defs
public import proofs.«01_k».proof.Proof.Gen.KernelIdeal.Frame
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameSuffix
public import Idealize.ShloMosaic.Lib.Pipeline.FrameBody
public import Idealize.ShloMosaic.Lib.Tactic
public import Idealize.ShloMosaic.Lib.Tactic.Stretches
public import Idealize.ShloMosaic.Lib.VecWindow
public import Idealize.ShloMosaic.Lib.Pipeline.TableIdle

@[expose] public section

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F] [Named F] [∀ e, Nonempty (Elt F e)]

local notation "𝕄" => MT nD τ sig Unit (Elt F) ℕ (UR sig nD τ) ℕ

/-- The condition of the first branch: the point is the grid's first. -/
abbrev isFirst (i : grid0.Coords) : Prop :=
  Scalar.cmpi .ne (Scalar.extui (Scalar.cmpi .eq (BitVec.ofNat 32 (i 0).val) 0#32) : BitVec 32) 0#32 = 1#1

/-- The three kinds of points: the first casts the weights and projects, the others below twelve project, the rest
    compute a block of the result. -/
theorem point_cases (t : Fin cfg0.N) :
    (isFirst (grid0.coords t) ∧ k0_cond2 (grid0.coords t) = 1#1 ∧ ¬ k0_cond3 (grid0.coords t) = 1#1)
    ∨ (¬ isFirst (grid0.coords t) ∧ k0_cond2 (grid0.coords t) = 1#1 ∧ ¬ k0_cond3 (grid0.coords t) = 1#1)
    ∨ (¬ isFirst (grid0.coords t) ∧ ¬ k0_cond2 (grid0.coords t) = 1#1 ∧ k0_cond3 (grid0.coords t) = 1#1) := by
  revert t; decide +kernel

/-! ## What a point computes -/

/-- The window of `x` of sizes `size` at offsets `off`, read without a bound (an index past an axis wraps around). -/
def cut {s : Shape} {α : Type} (x : s.Idx → α) (off size : Fin s.rank → ℕ) (hs : ∀ a, 0 < s.size a) :
    ((a : Fin s.rank) → Fin (size a)) → α :=
  fun y => x fun a => ⟨(off a + (y a).val) % s.size a, Nat.mod_lt _ (hs a)⟩

/-- A load at a rectangle of unit strides, from a buffer holding `x`, reads the window of `x`. -/
theorem readAt_cut {κ : Kind} {sp : Space} {s : Shape} {e : EltTy} (v : View sig κ sp s e) (x : s.Idx → Elt F e)
    {off size : Fin s.rank → ℕ} (inb : ∀ a, off a + size a ≤ s.size a) (hs : ∀ a, 0 < s.size a) :
    v.readAt (Elt F) (Rect.unit off size inb).toLoadRect (v.rep x) = cut x off size hs := by
  rw [View.readAt_rep_unit v x inb rfl inb]
  funext y
  refine congrArg x (funext fun a => Fin.ext ?_)
  show off a + 1 * (y a).val = (off a + (y a).val) % s.size a
  have h1 := inb a
  have h2 : (y a).val < size a := (y a).isLt
  rw [Nat.mod_eq_of_lt (by omega), one_mul]

/-- A load of the whole of a buffer holding `x` reads `x`. -/
theorem readAt_all {κ : Kind} {sp : Space} {s : Shape} {e : EltTy} (v : View sig κ sp s e) (x : s.Idx → Elt F e)
    {off : Fin s.rank → ℕ} (inb : ∀ a, off a + s.size a ≤ s.size a) :
    v.readAt (Elt F) (Rect.unit off s.size inb).toLoadRect (v.rep x) = x := View.readAt_rep_full v x inb

/-- A load of the whole of a buffer that was stored whole reads what was stored. -/
theorem readAt_stored {κ : Kind} {sp : Space} {s : Shape} {e : EltTy} (v : View sig κ sp s e)
    {off off' : Fin s.rank → ℕ} (inb : ∀ a, off a + s.size a ≤ s.size a) (inb' : ∀ a, off' a + s.size a ≤ s.size a)
    (w : s.Idx → Elt F e) :
    v.readCov (Val := Elt F) [⟨Rect.unit off' s.size inb', w⟩] (Rect.unit off s.size inb).toLoadRect = w :=
  View.readCov_full v inb inb' w []

/-- The queries' rows after the projecting point `i`: its 192 rows replaced by the projection of its block of `x`. -/
def queriesAfter (i : grid0.Coords) (q : FVec F S2112x1024 .bf16) (x : FVec F S192x1024 .f32)
    (wq : FVec F S1024x1024 .bf16) (bq : FVec F S1x1024 .f32) : FVec F S2112x1024 .bf16 :=
  VecWindow.put (s := S2112x1024) q (k0_off1 i) S192x1024.size (k0_pay10 x wq bq)

/-- The keys' and values' rows after the projecting point `i`. -/
def keysAfter (i : grid0.Coords) (kv : FVec F S32x2112x64 .bf16) (y : FVec F S192x1024 .f32)
    (wkv : FVec F S1024x2048 .bf16) (bkv : FVec F S1x2048 .f32) : FVec F S32x2112x64 .bf16 :=
  VecWindow.put (s := S32x2112x64) kv (k0_off2 i) S32x192x64.size (k0_pay12 y wkv bkv)

/-- The anchors after the projecting point `i`. -/
def anchorsAfter (i : grid0.Coords) (ka : FVec F S32x768x64 .bf16) (y : FVec F S192x1024 .f32)
    (wkv : FVec F S1024x2048 .bf16) (bkv : FVec F S1x2048 .f32) : FVec F S32x768x64 .bf16 :=
  VecWindow.put (s := S32x768x64) ka (k0_off3 i) S32x64x64.size
    (k0_pay4 (k0_pay13 (BitVec.ofNat 32 (i 0).val)) (k0_pay14 y wkv bkv))

/-- One head of a result block: the queries `q`, the anchors' keys `ka` and values `va`, the local window's keys `kl`
    and values `vl`, and what is added to the scores of the last 128 anchors and of the local window. -/
def head (abias : FVec F S256x128 .f32) (lbias : FVec F S256x384 .f32) (q : FVec F S256x64 .bf16)
    (ka : FVec F S1x768x64 .bf16) (kl : FVec F S1x384x64 .bf16) (va : FVec F S1x768x64 .bf16)
    (vl : FVec F S1x384x64 .bf16) : FVec F S256x64 .bf16 :=
  k0_pay19 abias lbias q (Scalar.ofBits .bf16 0x3E00#16) ka kl va vl

/-- Head `h` of the result block of the point `i`, from the scratch buffers' contents. -/
def headAt (i : grid0.Coords) (q : FVec F S2112x1024 .bf16) (kv : FVec F S32x2112x64 .bf16)
    (ka : FVec F S32x768x64 .bf16) (h : ℕ) : FVec F S256x64 .bf16 :=
  head k0_pay15 (k0_pay17 (k0_pay16 (BitVec.ofNat 32 (i 0).val)))
    (cut (s := S2112x1024) q ![k0_off4 i 0, 64 * h] S256x64.size (by decide))
    (cut (s := S32x768x64) ka ![h, 0, 0] S1x768x64.size (by decide))
    (cut (s := S32x2112x64) kv ![h, k0_off5 i 1, 0] S1x384x64.size (by decide))
    (cut (s := S32x768x64) ka ![16 + h, 0, 0] S1x768x64.size (by decide))
    (cut (s := S32x2112x64) kv ![16 + h, k0_off5 i 1, 0] S1x384x64.size (by decide))

/-- The heads of a result block side by side. -/
def headsAt (i : grid0.Coords) (q : FVec F S2112x1024 .bf16) (kv : FVec F S32x2112x64 .bf16)
    (ka : FVec F S32x768x64 .bf16) : FVec F S256x1024 .bf16 :=
  concatenate S256x1024 1 [⟨S256x64, headAt i q kv ka 0⟩, ⟨S256x64, headAt i q kv ka 1⟩, ⟨S256x64, headAt i q kv ka 2⟩,
    ⟨S256x64, headAt i q kv ka 3⟩, ⟨S256x64, headAt i q kv ka 4⟩, ⟨S256x64, headAt i q kv ka 5⟩,
    ⟨S256x64, headAt i q kv ka 6⟩, ⟨S256x64, headAt i q kv ka 7⟩, ⟨S256x64, headAt i q kv ka 8⟩,
    ⟨S256x64, headAt i q kv ka 9⟩, ⟨S256x64, headAt i q kv ka 10⟩, ⟨S256x64, headAt i q kv ka 11⟩,
    ⟨S256x64, headAt i q kv ka 12⟩, ⟨S256x64, headAt i q kv ka 13⟩, ⟨S256x64, headAt i q kv ka 14⟩,
    ⟨S256x64, headAt i q kv ka 15⟩]
    concatenates_S256x64_S256x64_S256x64_S256x64_S256x64_S256x64_S256x64_S256x64_S256x64_S256x64_S256x64_S256x64_S256x64_S256x64_S256x64_S256x64_S256x1024_d1

/-- The block of the result that the point `i` computes. -/
def resultAt (i : grid0.Coords) (q : FVec F S2112x1024 .bf16) (kv : FVec F S32x2112x64 .bf16)
    (ka : FVec F S32x768x64 .bf16) (wo : FVec F S1024x1024 .bf16) (bo : FVec F S1x1024 .f32) : FVec F S256x1024 .f32 :=
  k0_pay9 (headsAt i q kv ka) wo bo

/-- A head read by loads from buffers holding the scratch's contents is the head of those contents. -/
theorem headAt_loads {κ₁ κ₂ κ₃ : Kind} {sp₁ sp₂ sp₃ : Space} (v10 : View sig κ₁ sp₁ S2112x1024 .bf16)
    (v11 : View sig κ₂ sp₂ S32x2112x64 .bf16) (v12 : View sig κ₃ sp₃ S32x768x64 .bf16) (i : grid0.Coords)
    (q : FVec F S2112x1024 .bf16) (kv : FVec F S32x2112x64 .bf16) (ka : FVec F S32x768x64 .bf16) (h : ℕ)
    {oq : Fin 2 → ℕ} {oka okl ova ovl : Fin 3 → ℕ} (iq) (ika) (ikl) (iva) (ivl)
    (eq : oq = ![k0_off4 i 0, 64 * h]) (eka : oka = ![h, 0, 0]) (ekl : okl = ![h, k0_off5 i 1, 0])
    (eva : ova = ![16 + h, 0, 0]) (evl : ovl = ![16 + h, k0_off5 i 1, 0]) :
    head k0_pay15 (k0_pay17 (k0_pay16 (BitVec.ofNat 32 (i 0).val)))
      (v10.readAt (Elt F) (Rect.unit (s := S2112x1024) oq S256x64.size iq).toLoadRect (v10.rep q))
      (v12.readAt (Elt F) (Rect.unit (s := S32x768x64) oka S1x768x64.size ika).toLoadRect (v12.rep ka))
      (v11.readAt (Elt F) (Rect.unit (s := S32x2112x64) okl S1x384x64.size ikl).toLoadRect (v11.rep kv))
      (v12.readAt (Elt F) (Rect.unit (s := S32x768x64) ova S1x768x64.size iva).toLoadRect (v12.rep ka))
      (v11.readAt (Elt F) (Rect.unit (s := S32x2112x64) ovl S1x384x64.size ivl).toLoadRect (v11.rep kv))
    = headAt i q kv ka h := by
  subst eq eka ekl eva evl
  rw [readAt_cut v10 q iq (by decide), readAt_cut v12 ka ika (by decide), readAt_cut v11 kv ikl (by decide),
    readAt_cut v12 ka iva (by decide), readAt_cut v11 kv ivl (by decide)]
  rfl

/-- The result block from its sixteen heads. -/
theorem resultAt_of_heads (i : grid0.Coords) (q : FVec F S2112x1024 .bf16) (kv : FVec F S32x2112x64 .bf16)
    (ka : FVec F S32x768x64 .bf16) (wo : FVec F S1024x1024 .bf16) (bo : FVec F S1x1024 .f32)
    {a0 a1 a2 a3 a4 a5 a6 a7 a8 a9 a10 a11 a12 a13 a14 : FVec F S256x64 .bf16} {a15 : FVec F S256x64 .f32}
    (e0 : a0 = headAt i q kv ka 0)
    (e1 : a1 = headAt i q kv ka 1)
    (e2 : a2 = headAt i q kv ka 2)
    (e3 : a3 = headAt i q kv ka 3)
    (e4 : a4 = headAt i q kv ka 4)
    (e5 : a5 = headAt i q kv ka 5)
    (e6 : a6 = headAt i q kv ka 6)
    (e7 : a7 = headAt i q kv ka 7)
    (e8 : a8 = headAt i q kv ka 8)
    (e9 : a9 = headAt i q kv ka 9)
    (e10 : a10 = headAt i q kv ka 10)
    (e11 : a11 = headAt i q kv ka 11)
    (e12 : a12 = headAt i q kv ka 12)
    (e13 : a13 = headAt i q kv ka 13)
    (e14 : a14 = headAt i q kv ka 14)
    (e15 : truncf .bf16 a15 bitsLt_bf16_f32 = headAt i q kv ka 15) :
    k0_pay9 (k0_pay8 a0 a1 a2 a3 a4 a5 a6 a7 a8 a9 a10 a11 a12 a13 a14 a15) wo bo = resultAt i q kv ka wo bo := by
  subst e0 e1 e2 e3 e4 e5 e6 e7 e8 e9 e10 e11 e12 e13 e14
  unfold resultAt headsAt k0_pay8
  rw [e15]

section Body

variable (c : Dev nD) (i : grid0.Coords)
  (arg1 : Memref sig .tc .vmem S192x1024 .f32) (harg1 : arg1.IsWhole)
  (arg2 : Memref sig .tc .vmem S192x1024 .f32) (harg2 : arg2.IsWhole)
  (arg3 : Memref sig .tc .vmem S1024x1024 .f32) (harg3 : arg3.IsWhole)
  (arg4 : Memref sig .tc .vmem S1x1024 .f32) (harg4 : arg4.IsWhole)
  (arg5 : Memref sig .tc .vmem S1024x2048 .f32) (harg5 : arg5.IsWhole)
  (arg6 : Memref sig .tc .vmem S1x2048 .f32) (harg6 : arg6.IsWhole)
  (arg7 : Memref sig .tc .vmem S1024x1024 .f32) (harg7 : arg7.IsWhole)
  (arg8 : Memref sig .tc .vmem S1x1024 .f32) (harg8 : arg8.IsWhole)
  (arg9 : Memref sig .tc .vmem S256x1024 .f32) (harg9 : arg9.IsWhole)
  (arg10 : Memref sig .tc .vmem S2112x1024 .bf16) (harg10 : arg10.IsWhole)
  (arg11 : Memref sig .tc .vmem S32x2112x64 .bf16) (harg11 : arg11.IsWhole)
  (arg12 : Memref sig .tc .vmem S32x768x64 .bf16) (harg12 : arg12.IsWhole)
  (arg13 : Memref sig .tc .vmem S1024x1024 .bf16) (harg13 : arg13.IsWhole)
  (arg14 : Memref sig .tc .vmem S1024x2048 .bf16) (harg14 : arg14.IsWhole)
  (arg15 : Memref sig .tc .vmem S1024x1024 .bf16) (harg15 : arg15.IsWhole)

set_option backward.isDefEq.respectTransparency.types false in
set_option maxHeartbeats 2000000 in
/-- The first point: the three weight matrices are cast into the scratch, and the first rows are projected. -/
theorem first_point (h1 : isFirst i) (h2 : k0_cond2 i = 1#1) (h3 : ¬ k0_cond3 i = 1#1)
    (x1 : FVec F S192x1024 .f32) (x2 : FVec F S192x1024 .f32) (x3 : FVec F S1024x1024 .f32) (x4 : FVec F S1x1024 .f32) (x5 : FVec F S1024x2048 .f32) (x6 : FVec F S1x2048 .f32) (x7 : FVec F S1024x1024 .f32) (x8 : FVec F S1x1024 .f32) (x9 : FVec F S256x1024 .f32) (x10 : FVec F S2112x1024 .bf16) (x11 : FVec F S32x2112x64 .bf16) (x12 : FVec F S32x768x64 .bf16) (x13 : FVec F S1024x1024 .bf16) (x14 : FVec F S1024x2048 .bf16) (x15 : FVec F S1024x1024 .bf16)
    (K : PUnit → sProp 𝕄) :
    iprop(iprop(owns (c : Thread nD τ) arg1 fullShare (x1) ∗ owns (c : Thread nD τ) arg2 fullShare (x2) ∗ owns (c : Thread nD τ) arg3 fullShare (x3)
      ∗ owns (c : Thread nD τ) arg4 fullShare (x4) ∗ owns (c : Thread nD τ) arg5 fullShare (x5) ∗ owns (c : Thread nD τ) arg6 fullShare (x6)
      ∗ owns (c : Thread nD τ) arg7 fullShare (x7) ∗ owns (c : Thread nD τ) arg8 fullShare (x8) ∗ owns (c : Thread nD τ) arg9 fullShare (x9)
      ∗ owns (c : Thread nD τ) arg10 fullShare (x10) ∗ owns (c : Thread nD τ) arg11 fullShare (x11) ∗ owns (c : Thread nD τ) arg12 fullShare (x12)
      ∗ owns (c : Thread nD τ) arg13 fullShare (x13) ∗ owns (c : Thread nD τ) arg14 fullShare (x14) ∗ owns (c : Thread nD τ) arg15 fullShare (x15))
        ∗ (iprop(owns (c : Thread nD τ) arg1 fullShare (x1) ∗ owns (c : Thread nD τ) arg2 fullShare (x2) ∗ owns (c : Thread nD τ) arg3 fullShare (x3)
      ∗ owns (c : Thread nD τ) arg4 fullShare (x4) ∗ owns (c : Thread nD τ) arg5 fullShare (x5) ∗ owns (c : Thread nD τ) arg6 fullShare (x6)
      ∗ owns (c : Thread nD τ) arg7 fullShare (x7) ∗ owns (c : Thread nD τ) arg8 fullShare (x8) ∗ owns (c : Thread nD τ) arg9 fullShare (x9)
      ∗ owns (c : Thread nD τ) arg10 fullShare (queriesAfter i x10 x1 (k0_pay1 x3) x4) ∗ owns (c : Thread nD τ) arg11 fullShare (keysAfter i x11 x2 (k0_pay2 x5) x6) ∗ owns (c : Thread nD τ) arg12 fullShare (anchorsAfter i x12 x2 (k0_pay2 x5) x6)
      ∗ owns (c : Thread nD τ) arg13 fullShare (k0_pay1 x3) ∗ owns (c : Thread nD τ) arg14 fullShare (k0_pay2 x5) ∗ owns (c : Thread nD τ) arg15 fullShare (k0_pay3 x7))
          -∗ K ⟨⟩))
      ⊢ wp frame (wpE (defs₀ (F := F)) Variants.none c none) Set.univ
          (cc0__fused_body i arg1 harg1 arg2 harg2 arg3 harg3 arg4 harg4 arg5 harg5 arg6 harg6 arg7 harg7 arg8 harg8 arg9 harg9
            arg10 harg10 arg11 harg11 arg12 harg12 arg13 harg13 arg14 harg14 arg15 harg15) K := by
  simp only [owns_eq_rep]
  simp only [cc0__fused_body_eq_skeleton]; unfold cc0__fused_body_skel
  iintro ⟨⟨H1, H2, H3, H4, H5, H6, H7, H8, H9, S0, S1, S2, S3, S4, S5⟩, Hk⟩
  sl_exec
  sl_step
  have r1 : ∀ inb, arg1.view.readAt (Elt F) (Rect.unit (s := ⟨2, ![192, 1024]⟩) ![0, 0] ![192, 1024] inb).toLoadRect (arg1.view.rep x1) = x1 :=
    fun inb => readAt_all arg1.view x1 inb
  have r2 : ∀ inb, arg2.view.readAt (Elt F) (Rect.unit (s := ⟨2, ![192, 1024]⟩) ![0, 0] ![192, 1024] inb).toLoadRect (arg2.view.rep x2) = x2 :=
    fun inb => readAt_all arg2.view x2 inb
  have r3 : ∀ inb, arg3.view.readAt (Elt F) (Rect.unit (s := ⟨2, ![1024, 1024]⟩) ![0, 0] ![1024, 1024] inb).toLoadRect (arg3.view.rep x3) = x3 :=
    fun inb => readAt_all arg3.view x3 inb
  have r4 : ∀ inb, arg4.view.readAt (Elt F) (Rect.unit (s := ⟨2, ![1, 1024]⟩) ![0, 0] ![1, 1024] inb).toLoadRect (arg4.view.rep x4) = x4 :=
    fun inb => readAt_all arg4.view x4 inb
  have r5 : ∀ inb, arg5.view.readAt (Elt F) (Rect.unit (s := ⟨2, ![1024, 2048]⟩) ![0, 0] ![1024, 2048] inb).toLoadRect (arg5.view.rep x5) = x5 :=
    fun inb => readAt_all arg5.view x5 inb
  have r6 : ∀ inb, arg6.view.readAt (Elt F) (Rect.unit (s := ⟨2, ![1, 2048]⟩) ![0, 0] ![1, 2048] inb).toLoadRect (arg6.view.rep x6) = x6 :=
    fun inb => readAt_all arg6.view x6 inb
  have r7 : ∀ inb, arg7.view.readAt (Elt F) (Rect.unit (s := ⟨2, ![1024, 1024]⟩) ![0, 0] ![1024, 1024] inb).toLoadRect (arg7.view.rep x7) = x7 :=
    fun inb => readAt_all arg7.view x7 inb
  have w13 : ∀ inb inb' (w : FVec F S1024x1024 .bf16), arg13.view.readCov (Val := Elt F) [⟨Rect.unit (s := ⟨2, ![1024, 1024]⟩) ![0, 0] ![1024, 1024] inb', w⟩]
      (Rect.unit (s := ⟨2, ![1024, 1024]⟩) ![0, 0] ![1024, 1024] inb).toLoadRect = w :=
    fun inb inb' w => readAt_stored arg13.view inb inb' w
  have w14 : ∀ inb inb' (w : FVec F S1024x2048 .bf16), arg14.view.readCov (Val := Elt F) [⟨Rect.unit (s := ⟨2, ![1024, 2048]⟩) ![0, 0] ![1024, 2048] inb', w⟩]
      (Rect.unit (s := ⟨2, ![1024, 2048]⟩) ![0, 0] ![1024, 2048] inb).toLoadRect = w :=
    fun inb inb' w => readAt_stored arg14.view inb inb' w
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [S0]; · iapply (pointsTo_rep_of_read (c : Thread nD τ) arg10 _ fullShare _ (by sl_open_run; simp only [r1, r2, r3, r4, r5, r6, r7, w13, w14]; exact View.read_writes_rep_unit (Val := Elt F) arg10.view x10 _ _ rfl)) $$ S0
  isplitl [S1]; · iapply (pointsTo_rep_of_read (c : Thread nD τ) arg11 _ fullShare _ (by sl_open_run; simp only [r1, r2, r3, r4, r5, r6, r7, w13, w14]; exact View.read_writes_rep_unit (Val := Elt F) arg11.view x11 _ _ rfl)) $$ S1
  isplitl [S2]; · iapply (pointsTo_rep_of_read (c : Thread nD τ) arg12 _ fullShare _ (by sl_open_run; simp only [r1, r2, r3, r4, r5, r6, r7, w13, w14]; exact View.read_writes_rep_unit (Val := Elt F) arg12.view x12 _ _ rfl)) $$ S2
  isplitl [S3]; · iapply (pointsTo_rep_of_read (c : Thread nD τ) arg13 _ fullShare _ (by sl_open_run; simp only [r1, r2, r3, r4, r5, r6, r7, w13, w14]; exact View.read_writes_full (Val := Elt F) arg13.view _ _ _ _)) $$ S3
  isplitl [S4]; · iapply (pointsTo_rep_of_read (c : Thread nD τ) arg14 _ fullShare _ (by sl_open_run; simp only [r1, r2, r3, r4, r5, r6, r7, w13, w14]; exact View.read_writes_full (Val := Elt F) arg14.view _ _ _ _)) $$ S4
  iapply (pointsTo_rep_of_read (c : Thread nD τ) arg15 _ fullShare _ (by sl_open_run; simp only [r1, r2, r3, r4, r5, r6, r7, w13, w14]; exact View.read_writes_full (Val := Elt F) arg15.view _ _ _ _)) $$ S5

set_option backward.isDefEq.respectTransparency.types false in
set_option maxHeartbeats 2000000 in
/-- A later projecting point: its rows are projected with the weights in the scratch. -/
theorem projecting_point (h1 : ¬ isFirst i) (h2 : k0_cond2 i = 1#1) (h3 : ¬ k0_cond3 i = 1#1)
    (x1 : FVec F S192x1024 .f32) (x2 : FVec F S192x1024 .f32) (x3 : FVec F S1024x1024 .f32) (x4 : FVec F S1x1024 .f32) (x5 : FVec F S1024x2048 .f32) (x6 : FVec F S1x2048 .f32) (x7 : FVec F S1024x1024 .f32) (x8 : FVec F S1x1024 .f32) (x9 : FVec F S256x1024 .f32) (x10 : FVec F S2112x1024 .bf16) (x11 : FVec F S32x2112x64 .bf16) (x12 : FVec F S32x768x64 .bf16) (x13 : FVec F S1024x1024 .bf16) (x14 : FVec F S1024x2048 .bf16) (x15 : FVec F S1024x1024 .bf16)
    (K : PUnit → sProp 𝕄) :
    iprop(iprop(owns (c : Thread nD τ) arg1 fullShare (x1) ∗ owns (c : Thread nD τ) arg2 fullShare (x2) ∗ owns (c : Thread nD τ) arg3 fullShare (x3)
      ∗ owns (c : Thread nD τ) arg4 fullShare (x4) ∗ owns (c : Thread nD τ) arg5 fullShare (x5) ∗ owns (c : Thread nD τ) arg6 fullShare (x6)
      ∗ owns (c : Thread nD τ) arg7 fullShare (x7) ∗ owns (c : Thread nD τ) arg8 fullShare (x8) ∗ owns (c : Thread nD τ) arg9 fullShare (x9)
      ∗ owns (c : Thread nD τ) arg10 fullShare (x10) ∗ owns (c : Thread nD τ) arg11 fullShare (x11) ∗ owns (c : Thread nD τ) arg12 fullShare (x12)
      ∗ owns (c : Thread nD τ) arg13 fullShare (x13) ∗ owns (c : Thread nD τ) arg14 fullShare (x14) ∗ owns (c : Thread nD τ) arg15 fullShare (x15))
        ∗ (iprop(owns (c : Thread nD τ) arg1 fullShare (x1) ∗ owns (c : Thread nD τ) arg2 fullShare (x2) ∗ owns (c : Thread nD τ) arg3 fullShare (x3)
      ∗ owns (c : Thread nD τ) arg4 fullShare (x4) ∗ owns (c : Thread nD τ) arg5 fullShare (x5) ∗ owns (c : Thread nD τ) arg6 fullShare (x6)
      ∗ owns (c : Thread nD τ) arg7 fullShare (x7) ∗ owns (c : Thread nD τ) arg8 fullShare (x8) ∗ owns (c : Thread nD τ) arg9 fullShare (x9)
      ∗ owns (c : Thread nD τ) arg10 fullShare (queriesAfter i x10 x1 x13 x4) ∗ owns (c : Thread nD τ) arg11 fullShare (keysAfter i x11 x2 x14 x6) ∗ owns (c : Thread nD τ) arg12 fullShare (anchorsAfter i x12 x2 x14 x6)
      ∗ owns (c : Thread nD τ) arg13 fullShare (x13) ∗ owns (c : Thread nD τ) arg14 fullShare (x14) ∗ owns (c : Thread nD τ) arg15 fullShare (x15))
          -∗ K ⟨⟩))
      ⊢ wp frame (wpE (defs₀ (F := F)) Variants.none c none) Set.univ
          (cc0__fused_body i arg1 harg1 arg2 harg2 arg3 harg3 arg4 harg4 arg5 harg5 arg6 harg6 arg7 harg7 arg8 harg8 arg9 harg9
            arg10 harg10 arg11 harg11 arg12 harg12 arg13 harg13 arg14 harg14 arg15 harg15) K := by
  simp only [owns_eq_rep]
  simp only [cc0__fused_body_eq_skeleton]; unfold cc0__fused_body_skel
  iintro ⟨⟨H1, H2, H3, H4, H5, H6, H7, H8, H9, S0, S1, S2, S3, S4, S5⟩, Hk⟩
  sl_exec
  sl_step
  have r1 : ∀ inb, arg1.view.readAt (Elt F) (Rect.unit (s := ⟨2, ![192, 1024]⟩) ![0, 0] ![192, 1024] inb).toLoadRect (arg1.view.rep x1) = x1 :=
    fun inb => readAt_all arg1.view x1 inb
  have r2 : ∀ inb, arg2.view.readAt (Elt F) (Rect.unit (s := ⟨2, ![192, 1024]⟩) ![0, 0] ![192, 1024] inb).toLoadRect (arg2.view.rep x2) = x2 :=
    fun inb => readAt_all arg2.view x2 inb
  have r4 : ∀ inb, arg4.view.readAt (Elt F) (Rect.unit (s := ⟨2, ![1, 1024]⟩) ![0, 0] ![1, 1024] inb).toLoadRect (arg4.view.rep x4) = x4 :=
    fun inb => readAt_all arg4.view x4 inb
  have r6 : ∀ inb, arg6.view.readAt (Elt F) (Rect.unit (s := ⟨2, ![1, 2048]⟩) ![0, 0] ![1, 2048] inb).toLoadRect (arg6.view.rep x6) = x6 :=
    fun inb => readAt_all arg6.view x6 inb
  have r13 : ∀ inb, arg13.view.readAt (Elt F) (Rect.unit (s := ⟨2, ![1024, 1024]⟩) ![0, 0] ![1024, 1024] inb).toLoadRect (arg13.view.rep x13) = x13 :=
    fun inb => readAt_all arg13.view x13 inb
  have r14 : ∀ inb, arg14.view.readAt (Elt F) (Rect.unit (s := ⟨2, ![1024, 2048]⟩) ![0, 0] ![1024, 2048] inb).toLoadRect (arg14.view.rep x14) = x14 :=
    fun inb => readAt_all arg14.view x14 inb
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [S0]; · iapply (pointsTo_rep_of_read (c : Thread nD τ) arg10 _ fullShare _ (by sl_open_run; simp only [r1, r2, r4, r6, r13, r14]; exact View.read_writes_rep_unit (Val := Elt F) arg10.view x10 _ _ rfl)) $$ S0
  isplitl [S1]; · iapply (pointsTo_rep_of_read (c : Thread nD τ) arg11 _ fullShare _ (by sl_open_run; simp only [r1, r2, r4, r6, r13, r14]; exact View.read_writes_rep_unit (Val := Elt F) arg11.view x11 _ _ rfl)) $$ S1
  isplitl [S2]; · iapply (pointsTo_rep_of_read (c : Thread nD τ) arg12 _ fullShare _ (by sl_open_run; simp only [r1, r2, r4, r6, r13, r14]; exact View.read_writes_rep_unit (Val := Elt F) arg12.view x12 _ _ rfl)) $$ S2
  isplitl [S3]; · iexact S3
  isplitl [S4]; · iexact S4
  iexact S5

set_option pp.maxSteps 400 in
set_option backward.isDefEq.respectTransparency.types false in
set_option maxHeartbeats 4000000 in
/-- A result point: the result's block is left at what the scratch's contents make of it, the scratch as it was. -/
theorem result_point (h1 : ¬ isFirst i) (h2 : ¬ k0_cond2 i = 1#1) (h3 : k0_cond3 i = 1#1)
    (x1 : FVec F S192x1024 .f32) (x2 : FVec F S192x1024 .f32) (x3 : FVec F S1024x1024 .f32) (x4 : FVec F S1x1024 .f32) (x5 : FVec F S1024x2048 .f32) (x6 : FVec F S1x2048 .f32) (x7 : FVec F S1024x1024 .f32) (x8 : FVec F S1x1024 .f32) (x9 : FVec F S256x1024 .f32) (x10 : FVec F S2112x1024 .bf16) (x11 : FVec F S32x2112x64 .bf16) (x12 : FVec F S32x768x64 .bf16) (x13 : FVec F S1024x1024 .bf16) (x14 : FVec F S1024x2048 .bf16) (x15 : FVec F S1024x1024 .bf16)
    (K : PUnit → sProp 𝕄) :
    iprop(iprop(owns (c : Thread nD τ) arg1 fullShare (x1) ∗ owns (c : Thread nD τ) arg2 fullShare (x2) ∗ owns (c : Thread nD τ) arg3 fullShare (x3)
      ∗ owns (c : Thread nD τ) arg4 fullShare (x4) ∗ owns (c : Thread nD τ) arg5 fullShare (x5) ∗ owns (c : Thread nD τ) arg6 fullShare (x6)
      ∗ owns (c : Thread nD τ) arg7 fullShare (x7) ∗ owns (c : Thread nD τ) arg8 fullShare (x8) ∗ owns (c : Thread nD τ) arg9 fullShare (x9)
      ∗ owns (c : Thread nD τ) arg10 fullShare (x10) ∗ owns (c : Thread nD τ) arg11 fullShare (x11) ∗ owns (c : Thread nD τ) arg12 fullShare (x12)
      ∗ owns (c : Thread nD τ) arg13 fullShare (x13) ∗ owns (c : Thread nD τ) arg14 fullShare (x14) ∗ owns (c : Thread nD τ) arg15 fullShare (x15))
        ∗ (iprop(owns (c : Thread nD τ) arg1 fullShare (x1) ∗ owns (c : Thread nD τ) arg2 fullShare (x2) ∗ owns (c : Thread nD τ) arg3 fullShare (x3)
      ∗ owns (c : Thread nD τ) arg4 fullShare (x4) ∗ owns (c : Thread nD τ) arg5 fullShare (x5) ∗ owns (c : Thread nD τ) arg6 fullShare (x6)
      ∗ owns (c : Thread nD τ) arg7 fullShare (x7) ∗ owns (c : Thread nD τ) arg8 fullShare (x8) ∗ owns (c : Thread nD τ) arg9 fullShare (resultAt i x10 x11 x12 x15 x8)
      ∗ owns (c : Thread nD τ) arg10 fullShare (x10) ∗ owns (c : Thread nD τ) arg11 fullShare (x11) ∗ owns (c : Thread nD τ) arg12 fullShare (x12)
      ∗ owns (c : Thread nD τ) arg13 fullShare (x13) ∗ owns (c : Thread nD τ) arg14 fullShare (x14) ∗ owns (c : Thread nD τ) arg15 fullShare (x15))
          -∗ K ⟨⟩))
      ⊢ wp frame (wpE (defs₀ (F := F)) Variants.none c none) Set.univ
          (cc0__fused_body i arg1 harg1 arg2 harg2 arg3 harg3 arg4 harg4 arg5 harg5 arg6 harg6 arg7 harg7 arg8 harg8 arg9 harg9
            arg10 harg10 arg11 harg11 arg12 harg12 arg13 harg13 arg14 harg14 arg15 harg15) K := by
  simp only [owns_eq_rep]
  simp only [cc0__fused_body_eq_skeleton]; unfold cc0__fused_body_skel
  iintro ⟨⟨H1, H2, H3, H4, H5, H6, H7, H8, H9, S0, S1, S2, S3, S4, S5⟩, Hk⟩
  sl_exec
  sl_step
  have r8 : ∀ inb, arg8.view.readAt (Elt F) (Rect.unit (s := ⟨2, ![1, 1024]⟩) ![0, 0] ![1, 1024] inb).toLoadRect (arg8.view.rep x8) = x8 :=
    fun inb => readAt_all arg8.view x8 inb
  have r15 : ∀ inb, arg15.view.readAt (Elt F) (Rect.unit (s := ⟨2, ![1024, 1024]⟩) ![0, 0] ![1024, 1024] inb).toLoadRect (arg15.view.rep x15) = x15 :=
    fun inb => readAt_all arg15.view x15 inb
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iapply (pointsTo_rep_of_read (c : Thread nD τ) arg9 _ fullShare _ (by
            sl_open_run
            refine (View.read_writes_full (Val := Elt F) arg9.view _ _ _ _).trans ?_
            simp only [r8, r15]
            refine resultAt_of_heads i x10 x11 x12 x15 x8 ?_ ?_ ?_ ?_ ?_ ?_ ?_ ?_ ?_ ?_ ?_ ?_ ?_ ?_ ?_ ?_
            all_goals exact headAt_loads arg10.view arg11.view arg12.view i x10 x11 x12 _ _ _ _ _ _ rfl rfl rfl rfl rfl)) $$ H9
  isplitl [S0]; · iexact S0
  isplitl [S1]; · iexact S1
  isplitl [S2]; · iexact S2
  isplitl [S3]; · iexact S3
  isplitl [S4]; · iexact S4
  iexact S5

end Body

end Cert.KernelIdeal.Own

end
-- ==== Proof.KernelIdealValues.lean ====
/- What the points of the grid compute, read element by element over the extended reals: the projected rows, the
   anchors, the heads of a result block and the block itself, each as sums over the arrays' elements. -/
module

public import proofs.«01_k».proof.Proof.KernelIdealBody
public import Idealize.ShloMosaic.Lib.Pointwise

@[expose] public section

noncomputable section

namespace Cert.KernelIdeal.Own

open Cert.KernelIdeal Cert.KernelIdeal.Gen
open Idealize.ShloMosaic

/-! ## The payloads at an index -/

/-- Casting the first weight matrix changes no element. -/
theorem cast_wq (w : FVec Ideal S1024x1024 .f32) : k0_pay1 (F := Ideal) w = w := by
  funext j; pointwise [k0_pay1]

/-- Casting the second weight matrix changes no element. -/
theorem cast_wkv (w : FVec Ideal S1024x2048 .f32) : k0_pay2 (F := Ideal) w = w := by
  funext j; pointwise [k0_pay2]

/-- Casting the third weight matrix changes no element. -/
theorem cast_wo (w : FVec Ideal S1024x1024 .f32) : k0_pay3 (F := Ideal) w = w := by
  funext j; pointwise [k0_pay3]

/-- An element of a block of projected queries. -/
theorem queries_apply (x : FVec Ideal S192x1024 .f32) (w : FVec Ideal S1024x1024 .bf16) (b : FVec Ideal S1x1024 .f32)
    (r : Fin 192) (n : Fin 1024) :
    k0_pay10 (F := Ideal) x w b (ix2 r n) = (∑ k : Fin 1024, x (ix2 r k) * w (ix2 k n)) + b (ix2 0 n) := by
  pointwise [k0_pay10]

/-- Column `64 h + d` of the keys and values: entry `d` of head `h`, the values' heads counted from sixteen. -/
abbrev kvCol (h : Fin 32) (d : Fin 64) : Fin 2048 := ⟨h.val * 64 + d.val, by omega⟩

/-- An element of a block of projected keys and values, head by head. -/
theorem keys_apply (y : FVec Ideal S192x1024 .f32) (w : FVec Ideal S1024x2048 .bf16) (b : FVec Ideal S1x2048 .f32)
    (h : Fin 32) (r : Fin 192) (d : Fin 64) :
    k0_pay12 (F := Ideal) y w b (ix3 h r d) = (∑ k : Fin 1024, y (ix2 r k) * w (ix2 k (kvCol h d))) + b (ix2 0 (kvCol h d)) := by
  pointwise [k0_pay12, k0_pay11]

/-- An element of a block of anchors: of every third row of the projection, and zero from anchor 683 on. -/
theorem anchors_apply (n : BitVec 32) (y : FVec Ideal S192x1024 .f32) (w : FVec Ideal S1024x2048 .bf16)
    (b : FVec Ideal S1x2048 .f32) (h : Fin 32) (r : Fin 64) (d : Fin 64) :
    k0_pay4 (F := Ideal) (k0_pay13 n) (k0_pay14 y w b) (ix3 h r d)
      = Scalar.select (IntOp.cmpi .slt (IntOp.addi (Scalar.muli n 64#32) (BitVec.ofNat 32 r.val)) 683#32)
          ((∑ k : Fin 1024, y (ix2 ⟨r.val * 3, by omega⟩ k) * w (ix2 k (kvCol h d))) + b (ix2 0 (kvCol h d))) (0 : EReal) := by
  pointwise [k0_pay4, k0_pay13, k0_pay14, k0_pay11]

/-- An element of a result block: a row of the heads against a column of the output weights, and the bias. -/
theorem output_apply (hs : FVec Ideal S256x1024 .bf16) (w : FVec Ideal S1024x1024 .bf16) (b : FVec Ideal S1x1024 .f32)
    (r : Fin 256) (n : Fin 1024) :
    k0_pay9 (F := Ideal) hs w b (ix2 r n) = (∑ k : Fin 1024, hs (ix2 r k) * w (ix2 k n)) + b (ix2 0 n) := by
  pointwise [k0_pay9]

/-! ## The masks -/

/-- The named constant of the masks is `-∞`. -/
theorem named_neg : Named.named (F := Ideal) κ "neg" (φ := .f32) 0xCE6E6B28#32 = (⊥ : EReal) :=
  IdealRules.named_const.ideal_named_scalar _ _ _ _ rfl

/-- A bit's choice between two values is the choice by its being one. -/
theorem select_bit {α : Type} (p : Prop) [Decidable p] (a b : α) : Scalar.select (if p then 1#1 else 0#1) a b = if p then a else b := by
  by_cases h : p <;> simp [h, Scalar.select]

/-- Whether anchor `640 + t` is one of the 683 anchors. -/
theorem anchor_bit : ∀ t : Fin 128, IntOp.cmpi .slt (IntOp.addi (640#32) (BitVec.ofNat 32 t.val)) 683#32
    = if 640 + t.val < 683 then 1#1 else 0#1 := by decide +kernel

/-- What is added to the scores of the last 128 anchors: `-∞` from anchor 683 on. -/
theorem anchor_bias (r : Fin 256) (t : Fin 128) :
    k0_pay15 (F := Ideal) (ix2 r t) = if 640 + t.val < 683 then (0 : EReal) else ⊥ := by
  pointwise [k0_pay15]
  rw [anchor_bit, select_bit, named_neg]

/-- The anchor test of a block of anchors. -/
theorem anchor_row_bit : ∀ (n : Fin 12) (r : Fin 64),
    IntOp.cmpi .slt (IntOp.addi (Scalar.muli (BitVec.ofNat 32 n.val) 64#32) (BitVec.ofNat 32 r.val)) 683#32
      = if n.val * 64 + r.val < 683 then 1#1 else 0#1 := by decide +kernel

/-- The first row of the local window of block `g` of the result. -/
def base (g : ℕ) : ℕ := min (g * 256 - 64) 1664

/-- The first query row of a block, as the word the kernel computes. -/
theorem row_word : ∀ g : Fin 8, Scalar.muli (Scalar.subi (BitVec.ofNat 32 (g.val + 12)) 12#32) 256#32 = BitVec.ofNat 32 (g.val * 256) := by
  decide +kernel

/-- The first column of a block's window, as the word the kernel computes. -/
theorem base_word : ∀ g : Fin 8,
    Scalar.minsi (Scalar.maxsi (Scalar.subi (Scalar.muli (Scalar.subi (BitVec.ofNat 32 (g.val + 12)) 12#32) 256#32) 64#32) 0#32) 1664#32
      = BitVec.ofNat 32 (base g.val) := by
  decide +kernel

/-- The test that a position is no multiple of three, as computed on 32-bit words. -/
theorem mod3_bit : ∀ j : Fin 2048,
    IntOp.cmpi CmpIPredicate.ne
          (Scalar.select
            (IntOp.andi
              (IntOp.xori
                (IntOp.cmpi CmpIPredicate.slt
                  (IntOp.remsi ArithUnit.vector
                    (BitVec.ofNat 32 j.val)
                    (Scalar.select (Scalar.cmpi CmpIPredicate.eq 3#32 0#32) 1#32 3#32))
                  0#32)
                (Scalar.cmpi CmpIPredicate.slt (Scalar.select (Scalar.cmpi CmpIPredicate.eq 3#32 0#32) 1#32 3#32) 0#32))
              (IntOp.cmpi CmpIPredicate.ne
                (IntOp.remsi ArithUnit.vector
                  (BitVec.ofNat 32 j.val)
                  (Scalar.select (Scalar.cmpi CmpIPredicate.eq 3#32 0#32) 1#32 3#32))
                0#32))
            (IntOp.addi
              (IntOp.remsi ArithUnit.vector
                (BitVec.ofNat 32 j.val)
                (Scalar.select (Scalar.cmpi CmpIPredicate.eq 3#32 0#32) 1#32 3#32))
              (Scalar.select (Scalar.cmpi CmpIPredicate.eq 3#32 0#32) 1#32 3#32))
            (IntOp.remsi ArithUnit.vector
              (BitVec.ofNat 32 j.val)
              (Scalar.select (Scalar.cmpi CmpIPredicate.eq 3#32 0#32) 1#32 3#32)))
          0#32 = if j.val % 3 ≠ 0 then 1#1 else 0#1 := by
  decide +kernel

/-- The comparison of a distance with 64, as words. -/
theorem near_word : ∀ k : Fin 4096, IntOp.cmpi .sle (IntOp.absi (BitVec.ofNat 32 k.val - 2048#32)) 64#32
    = if k.val ≤ 2048 + 64 ∧ 2048 ≤ k.val + 64 then 1#1 else 0#1 := by decide +kernel

/-- The test that two positions are at most 64 apart, as computed on 32-bit words. -/
theorem near_bit (i j : ℕ) (hi : i < 2048) (hj : j < 2048) :
    IntOp.cmpi .sle (IntOp.absi (IntOp.subi (BitVec.ofNat 32 i) (BitVec.ofNat 32 j))) 64#32
      = if i ≤ j + 64 ∧ j ≤ i + 64 then 1#1 else 0#1 := by
  have e : IntOp.subi (BitVec.ofNat 32 i) (BitVec.ofNat 32 j) = BitVec.ofNat 32 (i + 2048 - j) - 2048#32 := by
    apply BitVec.eq_of_toNat_eq
    simp only [IntOp.subi, BitVec.toNat_sub, BitVec.toNat_ofNat]
    omega
  rw [e, near_word ⟨i + 2048 - j, by omega⟩]
  have : (i + 2048 - j ≤ 2048 + 64 ∧ 2048 ≤ i + 2048 - j + 64) ↔ (i ≤ j + 64 ∧ j ≤ i + 64) := by omega
  simp only [this]

/-- The conjunction of two bits. -/
theorem and_bits (p q : Prop) [Decidable p] [Decidable q] :
    IntOp.andi (if p then 1#1 else 0#1) (if q then 1#1 else 0#1) = if p ∧ q then 1#1 else 0#1 := by
  by_cases hp : p <;> by_cases hq : q <;> simp [hp, hq, IntOp.andi]

/-- A key that the local window adds to the anchors: near the query, and no anchor itself. -/
abbrev Near (i j : ℕ) : Prop := (i ≤ j + 64 ∧ j ≤ i + 64) ∧ j % 3 ≠ 0

/-- What is added to the scores of the local window: `-∞` but for the near keys that are no anchors. -/
theorem local_bias (g : Fin 8) (r : Fin 256) (t : Fin 384) :
    k0_pay17 (F := Ideal) (k0_pay16 (BitVec.ofNat 32 (g.val + 12))) (ix2 r t)
      = if Near (g.val * 256 + r.val) (base g.val + t.val) then (0 : EReal) else ⊥ := by
  have hb : base g.val ≤ 1664 := Nat.min_le_right _ _
  pointwise [k0_pay17, k0_pay16]
  rw [base_word, row_word]
  have e1 : ∀ a b : ℕ, IntOp.addi (BitVec.ofNat 32 a) (BitVec.ofNat 32 b) = BitVec.ofNat 32 (a + b) := fun a b => (BitVec.ofNat_add a b).symm
  rw [e1, e1, near_bit _ _ (by omega) (by omega), mod3_bit ⟨base g.val + t.val, by omega⟩, and_bits, select_bit, named_neg]

/-! ## A head -/

/-- The element of one head, once its operands are read: the anchors' and the local window's weighted values over the
    weights' sum. -/
theorem head_apply (va : FVec Ideal S256x128 .f32) (vl : FVec Ideal S256x384 .f32) (q : FVec Ideal S256x64 .bf16)
    (ka : FVec Ideal S1x768x64 .bf16) (kl : FVec Ideal S1x384x64 .bf16)
    (wa : FVec Ideal S1x768x64 .bf16) (wl : FVec Ideal S1x384x64 .bf16) (r : Fin 256) (d : Fin 64)
    (ea : Fin 768 → EReal) (el : Fin 384 → EReal)
    (hlo : ∀ a : Fin 768, a.val < 640 → (∑ e : Fin 64, q (ix2 r e) * Scalar.ofBits (F := Ideal) .bf16 0x3E00#16 * ka (ix3 0 a e)) = ea a)
    (hhi : ∀ a : Fin 128, (∑ e : Fin 64, q (ix2 r e) * Scalar.ofBits (F := Ideal) .bf16 0x3E00#16 * ka (ix3 0 ⟨640 + a.val, by omega⟩ e))
      + va (ix2 r a) = ea ⟨640 + a.val, by omega⟩)
    (hl : ∀ l : Fin 384, (∑ e : Fin 64, q (ix2 r e) * Scalar.ofBits (F := Ideal) .bf16 0x3E00#16 * kl (ix3 0 l e)) + vl (ix2 r l) = el l) :
    head (F := Ideal) va vl q ka kl wa wl (ix2 r d)
      = Ideal.div ((∑ a : Fin 768, Ideal.exp (ea a) * wa (ix3 0 a d)) + ∑ l : Fin 384, Ideal.exp (el l) * wl (ix3 0 l d))
          ((∑ a : Fin 768, Ideal.exp (ea a)) + ∑ l : Fin 384, Ideal.exp (el l)) := by
  unfold head
  pointwise [k0_pay19]
  have lo : ∀ (x : ℕ) (hx : x < 1152) (h7 : x < 768), (if h : x < 640 then
        ∑ e : Fin 64, q (ix2 r e) * Scalar.ofBits (F := Ideal) .bf16 0x3E00#16 * ka (ix3 0 ⟨x, by omega⟩ e)
      else if h : x - 640 < 128 then
        (∑ e : Fin 64, q (ix2 r e) * Scalar.ofBits (F := Ideal) .bf16 0x3E00#16 * ka (ix3 0 ⟨640 + (x - 640), by omega⟩ e)) + va (ix2 r ⟨x - 640, by omega⟩)
      else (∑ e : Fin 64, q (ix2 r e) * Scalar.ofBits (F := Ideal) .bf16 0x3E00#16 * kl (ix3 0 ⟨x - 640 - 128, by omega⟩ e))
        + vl (ix2 r ⟨x - 640 - 128, by omega⟩)) = ea ⟨x, h7⟩ := by
    intro x hx h7
    by_cases h : x < 640
    · rw [dif_pos h]; exact hlo ⟨x, h7⟩ h
    · rw [dif_neg h, dif_pos (by omega)]
      refine (hhi ⟨x - 640, by omega⟩).trans (congrArg ea (Fin.ext ?_))
      show 640 + (x - 640) = x; omega
  have hi : ∀ (x : ℕ) (hx : 768 + x < 1152), (if h : 768 + x < 640 then
        ∑ e : Fin 64, q (ix2 r e) * Scalar.ofBits (F := Ideal) .bf16 0x3E00#16 * ka (ix3 0 ⟨768 + x, by omega⟩ e)
      else if h : 768 + x - 640 < 128 then
        (∑ e : Fin 64, q (ix2 r e) * Scalar.ofBits (F := Ideal) .bf16 0x3E00#16 * ka (ix3 0 ⟨640 + (768 + x - 640), by omega⟩ e)) + va (ix2 r ⟨768 + x - 640, by omega⟩)
      else (∑ e : Fin 64, q (ix2 r e) * Scalar.ofBits (F := Ideal) .bf16 0x3E00#16 * kl (ix3 0 ⟨768 + x - 640 - 128, by omega⟩ e))
        + vl (ix2 r ⟨768 + x - 640 - 128, by omega⟩)) = el ⟨x, by omega⟩ := by
    intro x hx
    rw [dif_neg (by omega), dif_neg (by omega), ← hl]
    have e : (⟨768 + x - 640 - 128, by omega⟩ : Fin 384) = ⟨x, by omega⟩ := Fin.ext (by show 768 + x - 640 - 128 = x; omega)
    rw [e]
  refine congrArg₂ Ideal.div (congrArg₂ (· + ·) (Finset.sum_congr rfl fun x _ => ?_) (Finset.sum_congr rfl fun x _ => ?_)) ?_
  · exact congrArg (fun z => Ideal.exp z * wa (ix3 0 x d)) (lo x.val (by omega) x.isLt)
  · exact congrArg (fun z => Ideal.exp z * wl (ix3 0 x d)) (hi x.val (by omega))
  · refine (Fin.sum_univ_add (a := 768) (b := 384) _).trans ?_
    exact congrArg₂ (· + ·) (Finset.sum_congr rfl fun x _ => congrArg Ideal.exp (lo x.val (by omega) x.isLt))
      (Finset.sum_congr rfl fun x _ => congrArg Ideal.exp (hi x.val (by omega)))

/-! ## A put at an index -/

/-- A put read inside its window is the payload. -/
theorem put_inside {s : Shape} {α : Type} (x : s.Idx → α) (off size : Fin s.rank → ℕ) (w : ((a : Fin s.rank) → Fin (size a)) → α)
    (y : s.Idx) (z : (a : Fin s.rank) → Fin (size a)) (h : ∀ a, (y a).val = off a + (z a).val) :
    VecWindow.put x off size w y = w z := by
  unfold VecWindow.put
  rw [dif_pos (fun a => ⟨by have := h a; omega, by have := h a; have := (z a).isLt; omega⟩)]
  exact congrArg w (funext fun a => Fin.ext (by show (y a).val - off a = (z a).val; have := h a; omega))

/-- A put read outside its window on some axis is what was there. -/
theorem put_outside {s : Shape} {α : Type} (x : s.Idx → α) (off size : Fin s.rank → ℕ) (w : ((a : Fin s.rank) → Fin (size a)) → α)
    (y : s.Idx) (a : Fin s.rank) (h : ¬ (off a ≤ (y a).val ∧ (y a).val < off a + size a)) :
    VecWindow.put x off size w y = x y := by
  unfold VecWindow.put
  rw [dif_neg (fun hall => h (hall a))]

/-! ## The scratch's contents after `n` points -/

variable (q : Fin 2048 → Fin 1024 → EReal) (kv : Fin 2048 → Fin 2048 → EReal)

/-- Anchor `a` of column `n`: row `3 a` of the projection for the 683 anchors, zero for the padding. -/
def anchor (a : ℕ) (n : Fin 2048) : EReal := if h : a < 683 then kv ⟨3 * a, by omega⟩ n else 0

/-- What the scratch holds after the first `n` points: below row 2048 the projected rows of the queries, of the keys and
    values, and their anchors. The rows from 2048 on are not named. -/
structure Holds (n : ℕ) (f : FVec Ideal S2112x1024 .bf16) (g : FVec Ideal S32x2112x64 .bf16) (a : FVec Ideal S32x768x64 .bf16) : Prop where
  queries : ∀ (i : Fin 2112) (c : Fin 1024) (hi : i.val < 2048), i.val < 192 * n → f (ix2 i c) = q ⟨i.val, hi⟩ c
  keys : ∀ (h : Fin 32) (j : Fin 2112) (d : Fin 64) (hj : j.val < 2048), j.val < 192 * n → g (ix3 h j d) = kv ⟨j.val, hj⟩ (kvCol h d)
  anchors : ∀ (h : Fin 32) (t : Fin 768) (d : Fin 64), t.val < 64 * n → a (ix3 h t d) = anchor kv t.val (kvCol h d)

/-- A point's coordinate is its number. -/
theorem coord_val : ∀ t : Fin cfg0.N, (grid0.coords t 0).val = t.val := by decide +kernel
/-- Where the body's access number 1 starts. -/
theorem off1_row : ∀ t : Fin cfg0.N, t.val < 12 → k0_off1 (grid0.coords t) = ![min t.val 10 * 192, 0] := by decide +kernel
/-- Where the body's access number 2 starts. -/
theorem off2_row : ∀ t : Fin cfg0.N, t.val < 12 → k0_off2 (grid0.coords t) = ![0, min t.val 10 * 192, 0] := by decide +kernel
/-- Where the body's access number 3 starts. -/
theorem off3_row : ∀ t : Fin cfg0.N, t.val < 12 → k0_off3 (grid0.coords t) = ![0, t.val * 64, 0] := by decide +kernel
/-- Where the body's access number 4 starts. -/
theorem off4_row : ∀ t : Fin cfg0.N, 12 ≤ t.val → k0_off4 (grid0.coords t) 0 = (t.val - 12) * 256 := by decide +kernel
/-- Where the body's access number 5 starts. -/
theorem off5_row : ∀ t : Fin cfg0.N, 12 ≤ t.val → k0_off5 (grid0.coords t) 1 = base (t.val - 12) := by decide +kernel

/-- Before the first point nothing is said. -/
theorem Holds.zero (f) (g) (a) : Holds q kv 0 f g a :=
  ⟨fun _ _ _ h => absurd h (by omega), fun _ _ _ _ h => absurd h (by omega), fun _ _ _ h => absurd h (by omega)⟩

/-- Past the projecting points nothing is added. -/
theorem Holds.later {n : ℕ} {f} {g} {a} (h : Holds q kv n f g a) (hn : 12 ≤ n) (n' : ℕ) : Holds q kv n' f g a :=
  ⟨fun i c hi _ => h.queries i c hi (by omega), fun k j d hj _ => h.keys k j d hj (by omega), fun k t d _ => h.anchors k t d (by omega)⟩

/-- A projecting point adds its rows. -/
theorem Holds.step {t : Fin cfg0.N} (ht : t.val < 12) {f} {g} {a} (h : Holds q kv t.val f g a)
    (x y : FVec Ideal S192x1024 .f32) (wq : FVec Ideal S1024x1024 .bf16) (bq : FVec Ideal S1x1024 .f32)
    (wkv : FVec Ideal S1024x2048 .bf16) (bkv : FVec Ideal S1x2048 .f32)
    (hq : ∀ (r : Fin 192) (n : Fin 1024) (hr : min t.val 10 * 192 + r.val < 2048),
      (∑ k : Fin 1024, x (ix2 r k) * wq (ix2 k n)) + bq (ix2 0 n) = q ⟨min t.val 10 * 192 + r.val, hr⟩ n)
    (hkv : ∀ (r : Fin 192) (n : Fin 2048) (hr : min t.val 10 * 192 + r.val < 2048),
      (∑ k : Fin 1024, y (ix2 r k) * wkv (ix2 k n)) + bkv (ix2 0 n) = kv ⟨min t.val 10 * 192 + r.val, hr⟩ n) :
    Holds q kv (t.val + 1) (queriesAfter (grid0.coords t) f x wq bq) (keysAfter (grid0.coords t) g y wkv bkv)
      (anchorsAfter (grid0.coords t) a y wkv bkv) := by
  refine ⟨fun i c hi hn => ?_, fun k j d hj hn => ?_, fun k s d hn => ?_⟩
  · unfold queriesAfter
    rw [off1_row t ht]
    by_cases hin : min t.val 10 * 192 ≤ i.val ∧ i.val < min t.val 10 * 192 + 192
    · refine (put_inside (s := S2112x1024) f ![min t.val 10 * 192, 0] S192x1024.size (k0_pay10 x wq bq) (ix2 i c) (ix2 (⟨i.val - min t.val 10 * 192, by omega⟩ : Fin 192) c) ?_).trans ?_
      · intro ax; fin_cases ax
        · show i.val = min t.val 10 * 192 + (i.val - min t.val 10 * 192); omega
        · show c.val = 0 + c.val; omega
      · rw [queries_apply, hq ⟨i.val - min t.val 10 * 192, by omega⟩ c (by show min t.val 10 * 192 + (i.val - min t.val 10 * 192) < 2048; omega)]
        exact congrArg (fun z => q z c) (Fin.ext (by show min t.val 10 * 192 + (i.val - min t.val 10 * 192) = i.val; omega))
    · rw [put_outside _ _ _ _ _ 0 hin]
      exact h.queries i c hi (by omega)
  · unfold keysAfter
    rw [off2_row t ht]
    by_cases hin : min t.val 10 * 192 ≤ j.val ∧ j.val < min t.val 10 * 192 + 192
    · refine (put_inside (s := S32x2112x64) g ![0, min t.val 10 * 192, 0] S32x192x64.size (k0_pay12 y wkv bkv) (ix3 k j d) (ix3 k (⟨j.val - min t.val 10 * 192, by omega⟩ : Fin 192) d) ?_).trans ?_
      · intro ax; fin_cases ax
        · show k.val = 0 + k.val; omega
        · show j.val = min t.val 10 * 192 + (j.val - min t.val 10 * 192); omega
        · show d.val = 0 + d.val; omega
      · rw [keys_apply, hkv ⟨j.val - min t.val 10 * 192, by omega⟩ (kvCol k d) (by show min t.val 10 * 192 + (j.val - min t.val 10 * 192) < 2048; omega)]
        exact congrArg (fun z => kv z (kvCol k d)) (Fin.ext (by show min t.val 10 * 192 + (j.val - min t.val 10 * 192) = j.val; omega))
    · rw [put_outside _ _ _ _ _ 1 hin]
      exact h.keys k j d hj (by omega)
  · unfold anchorsAfter
    rw [off3_row t ht, coord_val]
    by_cases hin : t.val * 64 ≤ s.val ∧ s.val < t.val * 64 + 64
    · refine (put_inside (s := S32x768x64) a ![0, t.val * 64, 0] S32x64x64.size (k0_pay4 (k0_pay13 (BitVec.ofNat 32 t.val)) (k0_pay14 y wkv bkv)) (ix3 k s d) (ix3 k (⟨s.val - t.val * 64, by omega⟩ : Fin 64) d) ?_).trans ?_
      · intro ax; fin_cases ax
        · show k.val = 0 + k.val; omega
        · show s.val = t.val * 64 + (s.val - t.val * 64); omega
        · show d.val = 0 + d.val; omega
      · refine (anchors_apply _ _ _ _ k ⟨s.val - t.val * 64, by omega⟩ d).trans ?_
        rw [anchor_row_bit ⟨t.val, ht⟩, select_bit]
        unfold anchor
        show (if t.val * 64 + (s.val - t.val * 64) < 683 then _ else _) = _
        by_cases h6 : s.val < 683
        · rw [if_pos (by omega), dif_pos h6, hkv ⟨(s.val - t.val * 64) * 3, by omega⟩ (kvCol k d) (by show min t.val 10 * 192 + (s.val - t.val * 64) * 3 < 2048; omega)]
          exact congrArg (fun z => kv z (kvCol k d)) (Fin.ext (by show min t.val 10 * 192 + (s.val - t.val * 64) * 3 = 3 * s.val; omega))
        · rw [if_neg (by omega), dif_neg h6]
    · rw [put_outside _ _ _ _ _ 1 hin]
      exact h.anchors k s d (by omega)

end Cert.KernelIdeal.Own

end
-- ==== Proof.KernelIdealBlock.lean ====
/- A block of the result, element by element: each head as the weighted values of the 768 anchors and of the local
   window's 384 rows over the sum of their weights, and the block as the heads against the output weights. -/
module

public import proofs.«01_k».proof.Proof.KernelIdealValues

@[expose] public section

noncomputable section

namespace Cert.KernelIdeal.Own

open Cert.KernelIdeal Cert.KernelIdeal.Gen
open Idealize.ShloMosaic

variable (q : Fin 2048 → Fin 1024 → EReal) (kv : Fin 2048 → Fin 2048 → EReal)

/-- The scale of the scores, as the kernel's word reads. -/
abbrev scaleWord : EReal := Scalar.ofBits (F := Ideal) .bf16 0x3E00#16

/-- Column `64 h + d` of the queries. -/
abbrev qCol (h : Fin 16) (d : Fin 64) : Fin 1024 := ⟨h.val * 64 + d.val, by omega⟩
/-- The keys' column of head `h`. -/
abbrev kCol (h : Fin 16) (d : Fin 64) : Fin 2048 := ⟨h.val * 64 + d.val, by omega⟩
/-- The values' column of head `h`. -/
abbrev vCol (h : Fin 16) (d : Fin 64) : Fin 2048 := ⟨(16 + h.val) * 64 + d.val, by omega⟩

/-- The row of the queries that row `r` of block `g` is. -/
abbrev qRow (g : Fin 8) (r : Fin 256) : Fin 2048 := ⟨g.val * 256 + r.val, by omega⟩
/-- The row of the keys that position `l` of block `g`'s local window is. -/
abbrev lRow (g : Fin 8) (l : Fin 384) : Fin 2048 :=
  ⟨base g.val + l.val, by have : base g.val ≤ 1664 := Nat.min_le_right _ _; omega⟩

/-- The masked score of an anchor. -/
def anchorScore (g : Fin 8) (r : Fin 256) (h : Fin 16) (a : Fin 768) : EReal :=
  (∑ e : Fin 64, q (qRow g r) (qCol h e) * scaleWord * anchor kv a.val (kCol h e)) + if a.val < 683 then (0 : EReal) else ⊥

/-- The masked score of a position of the local window. -/
def localScore (g : Fin 8) (r : Fin 256) (h : Fin 16) (l : Fin 384) : EReal :=
  (∑ e : Fin 64, q (qRow g r) (qCol h e) * scaleWord * kv (lRow g l) (kCol h e))
    + if Near (g.val * 256 + r.val) (base g.val + l.val) then (0 : EReal) else ⊥

/-- An element of a head, as the kernel computes it. -/
def kernelHead (g : Fin 8) (r : Fin 256) (h : Fin 16) (d : Fin 64) : EReal :=
  Ideal.div ((∑ a : Fin 768, Ideal.exp (anchorScore q kv g r h a) * anchor kv a.val (vCol h d))
      + ∑ l : Fin 384, Ideal.exp (localScore q kv g r h l) * kv (lRow g l) (vCol h d))
    ((∑ a : Fin 768, Ideal.exp (anchorScore q kv g r h a)) + ∑ l : Fin 384, Ideal.exp (localScore q kv g r h l))

/-- The block of the point `12 + g` among the blocks of the result. -/
abbrev blockOf (t : Fin cfg0.N) (ht : 12 ≤ t.val) : Fin 8 :=
  ⟨t.val - 12, by have := t.isLt; have e : cfg0.N = 20 := N_0; omega⟩

/-- A window read inside the buffer. -/
theorem cut_apply {s : Shape} {α : Type} (x : s.Idx → α) (off size : Fin s.rank → ℕ) (hs : ∀ a, 0 < s.size a)
    (y : (a : Fin s.rank) → Fin (size a)) (z : s.Idx) (h : ∀ a, (z a).val = off a + (y a).val) :
    cut x off size hs y = x z :=
  congrArg x (funext fun a => Fin.ext (by
    show (off a + (y a).val) % s.size a = (z a).val
    rw [← h a, Nat.mod_eq_of_lt (z a).isLt]))

/-- A head of the result block, at any contents of the scratch that hold the projections. -/
theorem headAt_apply {t : Fin cfg0.N} (ht : 12 ≤ t.val) {f} {g} {a} (H : Holds q kv 12 f g a) (h : Fin 16) (r : Fin 256) (d : Fin 64) :
    headAt (F := Ideal) (grid0.coords t) f g a h.val (ix2 r d) = kernelHead q kv (blockOf t ht) r h d := by
  have hN : t.val < 20 := by have := t.isLt; have e : cfg0.N = 20 := N_0; omega
  have hb : base (t.val - 12) ≤ 1664 := Nat.min_le_right _ _
  have eq : ∀ e : Fin 64, cut (s := S2112x1024) f ![k0_off4 (grid0.coords t) 0, 64 * h.val] S256x64.size (by decide) (ix2 r e)
      = q (qRow (blockOf t ht) r) (qCol h e) := fun e => by
    rw [off4_row t ht]
    refine (cut_apply _ _ _ _ _ (ix2 (⟨(t.val - 12) * 256 + r.val, by omega⟩ : Fin 2112) (qCol h e)) ?_).trans
      (H.queries _ _ (by show (t.val - 12) * 256 + r.val < 2048; omega) (by show (t.val - 12) * 256 + r.val < 192 * 12; omega))
    intro ax; fin_cases ax
    · rfl
    · show h.val * 64 + e.val = 64 * h.val + e.val; omega
  have eka : ∀ (k : Fin 32) (o : ℕ) (ho : o = k.val) (x : Fin 768) (e : Fin 64),
      cut (s := S32x768x64) a ![o, 0, 0] S1x768x64.size (by decide) (ix3 (0 : Fin 1) x e) = anchor kv x.val (kvCol k e) := fun k o ho x e => by
    refine (cut_apply _ _ _ _ _ (ix3 k x e) ?_).trans (H.anchors k x e (by omega))
    intro ax; fin_cases ax
    · show k.val = o + 0; omega
    · show x.val = 0 + x.val; omega
    · show e.val = 0 + e.val; omega
  have ekl : ∀ (k : Fin 32) (o : ℕ) (ho : o = k.val) (l : Fin 384) (e : Fin 64),
      cut (s := S32x2112x64) g ![o, k0_off5 (grid0.coords t) 1, 0] S1x384x64.size (by decide) (ix3 (0 : Fin 1) l e)
        = kv (lRow (blockOf t ht) l) (kvCol k e) := fun k o ho l e => by
    rw [off5_row t ht]
    refine (cut_apply _ _ _ _ _ (ix3 k (⟨base (t.val - 12) + l.val, by omega⟩ : Fin 2112) e) ?_).trans
      (H.keys _ _ _ (by show base (t.val - 12) + l.val < 2048; omega) (by show base (t.val - 12) + l.val < 192 * 12; omega))
    intro ax; fin_cases ax
    · show k.val = o + 0; omega
    · rfl
    · show e.val = 0 + e.val; omega
  have ew : (BitVec.ofNat 32 (grid0.coords t 0).val) = BitVec.ofNat 32 ((blockOf t ht).val + 12) := by
    rw [coord_val]; exact congrArg _ (by show t.val = t.val - 12 + 12; omega)
  unfold headAt
  rw [ew]
  refine (head_apply _ _ _ _ _ _ _ r d (anchorScore q kv (blockOf t ht) r h) (localScore q kv (blockOf t ht) r h)
    (fun x hx => ?_) (fun x => ?_) (fun l => ?_)).trans ?_
  · unfold anchorScore
    rw [if_pos (by omega), add_zero]
    exact Finset.sum_congr rfl fun e _ => by rw [eq, eka ⟨h.val, by omega⟩ h.val rfl]
  · unfold anchorScore
    rw [anchor_bias]
    exact congrArg₂ (· + ·) (Finset.sum_congr rfl fun e _ => by rw [eq, eka ⟨h.val, by omega⟩ h.val rfl]) rfl
  · unfold localScore
    rw [local_bias]
    exact congrArg₂ (· + ·) (Finset.sum_congr rfl fun e _ => by rw [eq, ekl ⟨h.val, by omega⟩ h.val rfl]) rfl
  · unfold kernelHead
    refine congrArg₂ Ideal.div (congrArg₂ (· + ·) (Finset.sum_congr rfl fun x _ => ?_) (Finset.sum_congr rfl fun l _ => ?_)) rfl
    · rw [eka ⟨16 + h.val, by omega⟩ (16 + h.val) rfl]
    · rw [ekl ⟨16 + h.val, by omega⟩ (16 + h.val) rfl]

/-- The heads side by side: column `k` is entry `k mod 64` of head `k / 64`. -/
theorem headsAt_apply (i : grid0.Coords) (f : FVec Ideal S2112x1024 .bf16) (g : FVec Ideal S32x2112x64 .bf16)
    (a : FVec Ideal S32x768x64 .bf16) (r : Fin 256) (k : Fin 1024) :
    headsAt (F := Ideal) i f g a (ix2 r k) = headAt (F := Ideal) i f g a (k.val / 64) (ix2 r ⟨k.val % 64, Nat.mod_lt _ (by omega)⟩) := by
  have e := concatenate_ofFn_apply (t := S256x1024) (s₁ := S256x64) 1 (fun n : Fin 16 => headAt (F := Ideal) i f g a n.val)
    concatenates_S256x64_S256x64_S256x64_S256x64_S256x64_S256x64_S256x64_S256x64_S256x64_S256x64_S256x64_S256x64_S256x64_S256x64_S256x64_S256x64_S256x1024_d1
    rfl 64 rfl (ix2 r k) ⟨k.val / 64, by omega⟩ rfl (ix2 r ⟨k.val % 64, Nat.mod_lt _ (by omega)⟩) rfl (fun b hb => by
      fin_cases b
      · rfl
      · exact absurd rfl hb)
  exact e

/-- An element of the result, from the projections, the output weights and the output bias. -/
def outputOf (wo : Fin 1024 → Fin 1024 → EReal) (bo : Fin 1024 → EReal) (g : Fin 8) (r : Fin 256) (n : Fin 1024) : EReal :=
  (∑ k : Fin 1024, kernelHead q kv g r ⟨k.val / 64, by omega⟩ ⟨k.val % 64, Nat.mod_lt _ (by omega)⟩ * wo k n) + bo n

/-- An element of the block of the result that a late point computes. -/
theorem resultAt_apply {t : Fin cfg0.N} (ht : 12 ≤ t.val) {f} {g} {a} (H : Holds q kv 12 f g a)
    (wo : FVec Ideal S1024x1024 .bf16) (bo : FVec Ideal S1x1024 .f32) (r : Fin 256) (n : Fin 1024) :
    resultAt (F := Ideal) (grid0.coords t) f g a wo bo (ix2 r n)
      = outputOf q kv (fun k n => wo (ix2 k n)) (fun n => bo (ix2 0 n)) (blockOf t ht) r n := by
  unfold resultAt outputOf
  rw [output_apply]
  refine congrArg₂ (· + ·) (Finset.sum_congr rfl fun k _ => ?_) rfl
  rw [headsAt_apply, ← headAt_apply q kv ht H ⟨k.val / 64, by omega⟩]

end Cert.KernelIdeal.Own

end
-- ==== Proof.KernelIdealRun.lean ====
/- The idealized kernel's run with its values: what the scratch and the staging buffers hold at every point of the
   grid, and the result array after the last one. -/
module

public import proofs.«01_k».proof.Defs
public import proofs.«01_k».proof.Proof.KernelIdealBlock
public import proofs.«01_k».proof.Proof.Gen.KernelIdeal.Frame
public import proofs.«01_k».proof.Proof.Gen.KernelIdeal.Launch
public import proofs.«01_k».proof.Proof.Gen.KernelIdeal.Points
public import Idealize.ShloMosaic.Lib.Pipeline.FrameSuffix
public import Idealize.ShloMosaic.Lib.Pipeline.FrameBody
public import Idealize.ShloMosaic.Lib.Pipeline.ValueKit
public import Idealize.ShloMosaic.Lib.Tactic

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

local notation "𝕄" => MT nD τ sig Unit (Elt Ideal) ℕ (UR sig nD τ) ℕ

variable (m : (ℓ : Loc nD τ sig) → Buf (Elt Ideal) ℓ) (ρ : Dev nD → PrngReg) (c : Dev nD)

/-! ## The arrays the region is entered with, and what is computed of them -/

/-- The rows the queries are projected from. -/
def xOf : FVec Ideal S2048x1024 .f32 := V m c main_v0
/-- The rows the keys and values are projected from. -/
def yOf : FVec Ideal S2048x1024 .f32 := V m c main_v1
/-- The query weights. -/
def wqOf : FVec Ideal S1024x1024 .f32 := V m c main_arg2
/-- The query bias. -/
def bqOf : FVec Ideal S1x1024 .f32 := V m c main_v2
/-- The key and value weights. -/
def wkvOf : FVec Ideal S1024x2048 .f32 := V m c main_arg4
/-- The key and value bias. -/
def bkvOf : FVec Ideal S1x2048 .f32 := V m c main_v3
/-- The output weights. -/
def woOf : FVec Ideal S1024x1024 .f32 := V m c main_arg6
/-- The output bias. -/
def boOf : FVec Ideal S1x1024 .f32 := V m c main_v4

/-- The projected queries. -/
def qOf (i : Fin 2048) (n : Fin 1024) : EReal :=
  (∑ k : Fin 1024, xOf m c (ix2 i k) * wqOf m c (ix2 k n)) + bqOf m c (ix2 0 n)
/-- The projected keys and values. -/
def kvOf (i : Fin 2048) (n : Fin 2048) : EReal :=
  (∑ k : Fin 1024, yOf m c (ix2 i k) * wkvOf m c (ix2 k n)) + bkvOf m c (ix2 0 n)

/-- The block of 192 rows a point's projection reads, the rows past the array's end read as zero. -/
def rowsOf (x : FVec Ideal S2048x1024 .f32) (n : ℕ) : FVec Ideal S192x1024 .f32 :=
  fun y => if h : min n 10 * 192 + (y 0).val < 2048 then x (ix2 (⟨min n 10 * 192 + (y 0).val, h⟩ : Fin 2048) (y 1)) else 0

/-- The block of the result a point writes. -/
def blockOut (t : Fin cfg0.N) : FVec Ideal S256x1024 .f32 := fun y =>
  outputOf (qOf m c) (kvOf m c) (fun k n => woOf m c (ix2 k n)) (fun n => boOf m c (ix2 0 n))
    ⟨t.val - 12, by have := t.isLt; have e : cfg0.N = 20 := N_0; omega⟩ (y 0) (y 1)

/-! ## The windows' contents -/

/-- What the scratch holds after `n` points: the projections as far as they have been made, and from the first point on
    the three weight matrices. -/
def scratch (n : ℕ) : sProp 𝕄 :=
  iprop(∃ (f : FVec Ideal S2112x1024 .bf16) (g : FVec Ideal S32x2112x64 .bf16) (a : FVec Ideal S32x768x64 .bf16)
      (w1 : FVec Ideal S1024x1024 .bf16) (w2 : FVec Ideal S1024x2048 .bf16) (w3 : FVec Ideal S1024x1024 .bf16),
    ⌜Holds (qOf m c) (kvOf m c) n f g a ∧ (0 < n → w1 = wqOf m c ∧ w2 = wkvOf m c ∧ w3 = woOf m c)⌝
      ∗ owns (c : Thread nD τ) (Memref.whole cc0_scratch0) fullShare f ∗ owns (c : Thread nD τ) (Memref.whole cc0_scratch1) fullShare g
      ∗ owns (c : Thread nD τ) (Memref.whole cc0_scratch2) fullShare a ∗ owns (c : Thread nD τ) (Memref.whole cc0_scratch3) fullShare w1
      ∗ owns (c : Thread nD τ) (Memref.whole cc0_scratch4) fullShare w2 ∗ owns (c : Thread nD τ) (Memref.whole cc0_scratch5) fullShare w3)

/-- What a point leaves in each staging buffer. -/
def left : (w : Fin cfg0.W) → (t : Fin cfg0.N) → (cfg0.win w).block.Idx → Elt Ideal (cfg0.win w).elt
  | 0, t => rowsOf (xOf m c) t.val
  | 1, t => rowsOf (yOf m c) t.val
  | 2, t => wqOf m c
  | 3, t => bqOf m c
  | 4, t => wkvOf m c
  | 5, t => bkvOf m c
  | 6, t => woOf m c
  | 7, t => boOf m c
  | 8, t => blockOut m c t
  | ⟨_ + 9, h⟩, _ => absurd h (Nat.not_lt.2 (Nat.le_add_left _ _))

/-- The proof data on core `c`. -/
def dats (_ : Fin 1) (c : Dev nD) : Dat τ (Elt Ideal) Unit ℕ (UR sig nD τ) ℕ cfg0 c where
  A w := V m c (Pipeline.arrRef spec0 w)
  after w t := left m c w t
  Φ t := iprop(scratch m c t.val ∗ ∃ r, prngReg c r)
  q _ := fullShare
  owed _ := 0

/-- The block that window 0 takes at each point. -/
theorem idx0_0 : ∀ t : Fin cfg0.N, win0_0.index t = ![min t.val 10, 0] := by decide +kernel
/-- The block that window 1 takes at each point. -/
theorem idx0_1 : ∀ t : Fin cfg0.N, win0_1.index t = ![min t.val 10, 0] := by decide +kernel
/-- The block that window 2 takes at each point. -/
theorem idx0_2 : ∀ t : Fin cfg0.N, win0_2.index t = ![0, 0] := by decide +kernel
/-- The block that window 3 takes at each point. -/
theorem idx0_3 : ∀ t : Fin cfg0.N, win0_3.index t = ![0, 0] := by decide +kernel
/-- The block that window 4 takes at each point. -/
theorem idx0_4 : ∀ t : Fin cfg0.N, win0_4.index t = ![0, 0] := by decide +kernel
/-- The block that window 5 takes at each point. -/
theorem idx0_5 : ∀ t : Fin cfg0.N, win0_5.index t = ![0, 0] := by decide +kernel
/-- The block that window 6 takes at each point. -/
theorem idx0_6 : ∀ t : Fin cfg0.N, win0_6.index t = ![0, 0] := by decide +kernel
/-- The block that window 7 takes at each point. -/
theorem idx0_7 : ∀ t : Fin cfg0.N, win0_7.index t = ![0, 0] := by decide +kernel
/-- The block that window 8 takes at each point. -/
theorem idx0_8 : ∀ t : Fin cfg0.N, win0_8.index t = ![t.val - 12, 0] := by decide +kernel
/-- Window 0 fetches at the points up to 10 only. -/
theorem fetch0_0 : ∀ t : Fin cfg0.N, win0_0.fetch t = true ↔ t.val ≤ 10 := by decide +kernel
/-- Window 1 fetches at the points up to 10 only. -/
theorem fetch0_1 : ∀ t : Fin cfg0.N, win0_1.fetch t = true ↔ t.val ≤ 10 := by decide +kernel
/-- The result is written back at the late points only. -/
theorem flush0_8 : ∀ t : Fin cfg0.N, win0_8.flush t = true ↔ 12 ≤ t.val := by decide +kernel
/-- The rows of window 0 that lie inside the array: all of the block, except in the last. -/
theorem rows0_0 : ∀ t : Fin cfg0.N, win0_0.xsize (grid0.coords t) 0 = if t.val < 10 then 192 else 128 := by decide +kernel
/-- The rows of window 1 that lie inside the array: all of the block, except in the last. -/
theorem rows0_1 : ∀ t : Fin cfg0.N, win0_1.xsize (grid0.coords t) 0 = if t.val < 10 then 192 else 128 := by decide +kernel
/-- Every column of window 0 lies inside the array. -/
theorem cols0_0 : ∀ t : Fin cfg0.N, win0_0.xsize (grid0.coords t) 1 = 1024 := by decide +kernel
/-- Every column of window 1 lies inside the array. -/
theorem cols0_1 : ∀ t : Fin cfg0.N, win0_1.xsize (grid0.coords t) 1 = 1024 := by decide +kernel

/-- The weights are cast at the first point only. -/
theorem first_iff : ∀ t : Fin cfg0.N, isFirst (grid0.coords t) ↔ t.val = 0 := by decide +kernel
/-- The early points project. -/
theorem project_iff : ∀ t : Fin cfg0.N, k0_cond2 (grid0.coords t) = 1#1 ↔ t.val < 12 := by decide +kernel
/-- The late points compute the result. -/
theorem result_iff : ∀ t : Fin cfg0.N, k0_cond3 (grid0.coords t) = 1#1 ↔ 12 ≤ t.val := by decide +kernel

/-- An input window the body only reads: the moved part of what a point finds in its buffer is the moved part of what it
    leaves, if at a fetching point that is the block and at another point nothing has changed. -/
theorem before_moved {c : Dev nD} (dat : Dat τ (Elt Ideal) Unit ℕ (UR sig nD τ) ℕ cfg0 c) (w : Fin cfg0.W)
    (hin : (cfg0.win w).isOut = false) (hlive : ∀ i, cfg0.idle w i = false)
    (hfetch : ∀ t, (cfg0.win w).fetch t = true → (cfg0.win w).cut (cfg0.grid.coords t) (dat.after w t) = dat.blockOf w t)
    (hstay : ∀ t : Fin cfg0.N, (cfg0.win w).fetch t = false → ∀ t' : Fin cfg0.N, t'.val = t.val - 1 →
      ∀ j, (cfg0.win w).moved (cfg0.grid.coords t) j = true →
        (cfg0.win w).moved (cfg0.grid.coords t') j = true ∧ dat.after w t' j = dat.after w t j)
    (t : Fin cfg0.N) (d) :
    (cfg0.win w).cut (cfg0.grid.coords t) (dat.before w t d) = (cfg0.win w).cut (cfg0.grid.coords t) (dat.after w t) := by
  by_cases hf : (cfg0.win w).fetch t = true
  · rw [dat.before_fetched w t hf, dat.cut_fetched w t, hfetch t hf]
  · have hf' := Bool.eq_false_iff.mpr hf
    rw [dat.before_unfetched_in w hin t hf' hlive]
    funext j
    obtain ⟨hm, he⟩ := hstay t hf' ⟨t.val - 1, Nat.lt_of_le_of_lt (Nat.sub_le _ _) t.isLt⟩ rfl
      ((cfg0.win w).xinj (cfg0.grid.coords t) j) ((cfg0.win w).moved_xinj _ j)
    refine Eq.trans ?_ he
    show (cfg0.win w).fill _ d _ ((cfg0.win w).xinj (cfg0.grid.coords t) j) = _
    unfold Window.fill
    rw [dif_pos hm]

/-- Points with the same block read the same rows. -/
theorem inside_rows (x : FVec Ideal S2048x1024 .f32) (n n' : ℕ) (h : min n 10 = min n' 10) : rowsOf x n = rowsOf x n' := by
  funext y; unfold rowsOf; rw [h]

/-- Window 0's buffer holds, on its moved part, the rows of the point's block. -/
theorem before0_0 (t : Fin cfg0.N) (d) :
    win0_0.cut (grid0.coords t) ((dats m 0 c).before 0 t d) = win0_0.cut (grid0.coords t) (rowsOf (xOf m c) t.val) := by
  refine before_moved (dats m 0 c) 0 rfl (fun _ => rfl) (fun t hf => ?_) (fun t hf t' ht' j hj => ?_) t d
  · funext y
    show rowsOf (xOf m c) t.val (win0_0.xinj (grid0.coords t) y) = _
    have h0 : (y 0).val < win0_0.xsize (grid0.coords t) 0 := (y 0).isLt
    rw [rows0_0] at h0
    have h10 : t.val ≤ 10 := (fetch0_0 t).mp hf
    unfold rowsOf Dat.blockOf
    have hr : min t.val 10 * 192 + (win0_0.xinj (grid0.coords t) y 0).val < 2048 := by
      show min t.val 10 * 192 + (y 0).val < 2048
      split at h0 <;> omega
    rw [dif_pos hr]
    refine congrArg (xOf m c) (funext fun ax => Fin.ext ?_)
    fin_cases ax
    · refine Eq.trans ?_ (win0_0.rect_emb_val_off t y 0).symm
      rw [idx0_0]; rfl
    · refine Eq.trans ?_ (win0_0.rect_emb_val_off t y 1).symm
      rw [idx0_0]; exact (Nat.zero_add _).symm
  · have hm := (win0_0.moved_iff _ j).mp hj
    have hf' : ¬ t.val ≤ 10 := fun h => by rw [(fetch0_0 t).mpr h] at hf; exact absurd hf (by decide)
    refine ⟨(win0_0.moved_iff _ j).mpr fun a => ?_, congrFun (inside_rows _ _ _ (by omega)) j⟩
    have := hm a
    fin_cases a
    · have h0 : (j 0).val < win0_0.xsize (grid0.coords t) 0 := this
      show (j 0).val < win0_0.xsize (grid0.coords t') 0
      rw [rows0_0] at h0 ⊢
      split at h0 <;> split <;> omega
    · show (j 1).val < win0_0.xsize (grid0.coords t') 1
      rw [cols0_0]; exact (j 1).isLt

/-- Window 1's buffer holds, on its moved part, the rows of the point's block. -/
theorem before0_1 (t : Fin cfg0.N) (d) :
    win0_1.cut (grid0.coords t) ((dats m 0 c).before 1 t d) = win0_1.cut (grid0.coords t) (rowsOf (yOf m c) t.val) := by
  refine before_moved (dats m 0 c) 1 rfl (fun _ => rfl) (fun t hf => ?_) (fun t hf t' ht' j hj => ?_) t d
  · funext y
    show rowsOf (yOf m c) t.val (win0_1.xinj (grid0.coords t) y) = _
    have h0 : (y 0).val < win0_1.xsize (grid0.coords t) 0 := (y 0).isLt
    rw [rows0_1] at h0
    have h10 : t.val ≤ 10 := (fetch0_1 t).mp hf
    unfold rowsOf Dat.blockOf
    have hr : min t.val 10 * 192 + (win0_1.xinj (grid0.coords t) y 0).val < 2048 := by
      show min t.val 10 * 192 + (y 0).val < 2048
      split at h0 <;> omega
    rw [dif_pos hr]
    refine congrArg (yOf m c) (funext fun ax => Fin.ext ?_)
    fin_cases ax
    · refine Eq.trans ?_ (win0_1.rect_emb_val_off t y 0).symm
      rw [idx0_1]; rfl
    · refine Eq.trans ?_ (win0_1.rect_emb_val_off t y 1).symm
      rw [idx0_1]; exact (Nat.zero_add _).symm
  · have hm := (win0_1.moved_iff _ j).mp hj
    have hf' : ¬ t.val ≤ 10 := fun h => by rw [(fetch0_1 t).mpr h] at hf; exact absurd hf (by decide)
    refine ⟨(win0_1.moved_iff _ j).mpr fun a => ?_, congrFun (inside_rows _ _ _ (by omega)) j⟩
    have := hm a
    fin_cases a
    · have h0 : (j 0).val < win0_1.xsize (grid0.coords t) 0 := this
      show (j 0).val < win0_1.xsize (grid0.coords t') 0
      rw [rows0_1] at h0 ⊢
      split at h0 <;> split <;> omega
    · show (j 1).val < win0_1.xsize (grid0.coords t') 1
      rw [cols0_1]; exact (j 1).isLt

/-- Window 2's block is its whole array. -/
theorem iblk_2 (t : Fin cfg0.N) : iblk m c 2 t = wqOf m c := by
  funext y; unfold iblk wqOf; refine congrArg (V m c main_arg2) (funext fun ax => Fin.ext ?_)
  fin_cases ax <;> blk_simp [idx0_2]
/-- What the body finds in window 2: the whole array. -/
theorem before0_2 (t : Fin cfg0.N) (d) : (dats m 0 c).before 2 t d = wqOf m c :=
  (before0_2_of m (dats m 0 c) rfl (fun t => (iblk_2 m c t).symm) t d).trans (iblk_2 m c t)

/-- Window 3's block is its whole array. -/
theorem iblk_3 (t : Fin cfg0.N) : iblk m c 3 t = bqOf m c := by
  funext y; unfold iblk bqOf; refine congrArg (V m c main_v2) (funext fun ax => Fin.ext ?_)
  fin_cases ax <;> blk_simp [idx0_3]
/-- What the body finds in window 3: the whole array. -/
theorem before0_3 (t : Fin cfg0.N) (d) : (dats m 0 c).before 3 t d = bqOf m c :=
  (before0_3_of m (dats m 0 c) rfl (fun t => (iblk_3 m c t).symm) t d).trans (iblk_3 m c t)

/-- Window 4's block is its whole array. -/
theorem iblk_4 (t : Fin cfg0.N) : iblk m c 4 t = wkvOf m c := by
  funext y; unfold iblk wkvOf; refine congrArg (V m c main_arg4) (funext fun ax => Fin.ext ?_)
  fin_cases ax <;> blk_simp [idx0_4]
/-- What the body finds in window 4: the whole array. -/
theorem before0_4 (t : Fin cfg0.N) (d) : (dats m 0 c).before 4 t d = wkvOf m c :=
  (before0_4_of m (dats m 0 c) rfl (fun t => (iblk_4 m c t).symm) t d).trans (iblk_4 m c t)

/-- Window 5's block is its whole array. -/
theorem iblk_5 (t : Fin cfg0.N) : iblk m c 5 t = bkvOf m c := by
  funext y; unfold iblk bkvOf; refine congrArg (V m c main_v3) (funext fun ax => Fin.ext ?_)
  fin_cases ax <;> blk_simp [idx0_5]
/-- What the body finds in window 5: the whole array. -/
theorem before0_5 (t : Fin cfg0.N) (d) : (dats m 0 c).before 5 t d = bkvOf m c :=
  (before0_5_of m (dats m 0 c) rfl (fun t => (iblk_5 m c t).symm) t d).trans (iblk_5 m c t)

/-- Window 6's block is its whole array. -/
theorem iblk_6 (t : Fin cfg0.N) : iblk m c 6 t = woOf m c := by
  funext y; unfold iblk woOf; refine congrArg (V m c main_arg6) (funext fun ax => Fin.ext ?_)
  fin_cases ax <;> blk_simp [idx0_6]
/-- What the body finds in window 6: the whole array. -/
theorem before0_6 (t : Fin cfg0.N) (d) : (dats m 0 c).before 6 t d = woOf m c :=
  (before0_6_of m (dats m 0 c) rfl (fun t => (iblk_6 m c t).symm) t d).trans (iblk_6 m c t)

/-- Window 7's block is its whole array. -/
theorem iblk_7 (t : Fin cfg0.N) : iblk m c 7 t = boOf m c := by
  funext y; unfold iblk boOf; refine congrArg (V m c main_v4) (funext fun ax => Fin.ext ?_)
  fin_cases ax <;> blk_simp [idx0_7]
/-- What the body finds in window 7: the whole array. -/
theorem before0_7 (t : Fin cfg0.N) (d) : (dats m 0 c).before 7 t d = boOf m c :=
  (before0_7_of m (dats m 0 c) rfl (fun t => (iblk_7 m c t).symm) t d).trans (iblk_7 m c t)

/-! ## A point of the grid -/

/-- Window 0's buffer as a point leaves it: the rows of its block on the moved part, anything past the array's end. -/
abbrev rest0 (t : Fin cfg0.N) : sProp 𝕄 :=
  iprop(∃ d, owns (c : Thread nD τ) (st0_0 t) fullShare (win0_0.fill (grid0.coords t) d (win0_0.cut (grid0.coords t) (rowsOf (xOf m c) t.val))))
/-- Window 1's buffer as a point leaves it. -/
abbrev rest1 (t : Fin cfg0.N) : sProp 𝕄 :=
  iprop(∃ d, owns (c : Thread nD τ) (st0_1 t) fullShare (win0_1.fill (grid0.coords t) d (win0_1.cut (grid0.coords t) (rowsOf (yOf m c) t.val))))

/-- What a point's body is called with, window 8's buffer at `x9`. -/
def pre (t : Fin cfg0.N) (x1 x2 : FVec Ideal S192x1024 .f32) (x9 : FVec Ideal S256x1024 .f32) : sProp 𝕄 :=
  iprop(iprop(scratch m c t.val ∗ ∃ r, prngReg c r) ∗ (dats m 0 c).owesAt () t.castSucc
    ∗ (owns (c : Thread nD τ) (st0_0 t) fullShare x1 ∗ owns (c : Thread nD τ) (st0_1 t) fullShare x2
      ∗ owns (c : Thread nD τ) (st0_2 t) fullShare (wqOf m c) ∗ owns (c : Thread nD τ) (st0_3 t) fullShare (bqOf m c)
      ∗ owns (c : Thread nD τ) (st0_4 t) fullShare (wkvOf m c) ∗ owns (c : Thread nD τ) (st0_5 t) fullShare (bkvOf m c)
      ∗ owns (c : Thread nD τ) (st0_6 t) fullShare (woOf m c) ∗ owns (c : Thread nD τ) (st0_7 t) fullShare (boOf m c)
      ∗ owns (c : Thread nD τ) (st0_8 t) fullShare x9))

/-- What it hands back. -/
def post (t : Fin cfg0.N) (x1 x2 : FVec Ideal S192x1024 .f32) (x9 : FVec Ideal S256x1024 .f32) : sProp 𝕄 :=
  iprop(iprop(scratch m c (t.val + 1) ∗ ∃ r, prngReg c r) ∗ (dats m 0 c).owesAt () t.succ
    ∗ (owns (c : Thread nD τ) (st0_0 t) fullShare x1 ∗ owns (c : Thread nD τ) (st0_1 t) fullShare x2
      ∗ owns (c : Thread nD τ) (st0_2 t) fullShare (wqOf m c) ∗ owns (c : Thread nD τ) (st0_3 t) fullShare (bqOf m c)
      ∗ owns (c : Thread nD τ) (st0_4 t) fullShare (wkvOf m c) ∗ owns (c : Thread nD τ) (st0_5 t) fullShare (bkvOf m c)
      ∗ owns (c : Thread nD τ) (st0_6 t) fullShare (woOf m c) ∗ owns (c : Thread nD τ) (st0_7 t) fullShare (boOf m c)
      ∗ owns (c : Thread nD τ) (st0_8 t) fullShare x9))

/-- The rows a block is read with project to the rows of the whole projection. -/
theorem projected (x : FVec Ideal S2048x1024 .f32) (x1 : FVec Ideal S192x1024 .f32) {N : ℕ} (w : FVec Ideal ⟨2, ![1024, N]⟩ .f32)
    (b : FVec Ideal ⟨2, ![1, N]⟩ .f32) (n : ℕ)
    (h : ∀ (r : Fin 192) (k : Fin 1024), min n 10 * 192 + r.val < 2048 → x1 (ix2 r k) = rowsOf x n (ix2 r k))
    (r : Fin 192) (k : Fin N) (hr : min n 10 * 192 + r.val < 2048) :
    (∑ e : Fin 1024, x1 (ix2 r e) * w (ix2 e k)) + b (ix2 0 k)
      = (∑ e : Fin 1024, x (ix2 ⟨min n 10 * 192 + r.val, hr⟩ e) * w (ix2 e k)) + b (ix2 0 k) := by
  refine congrArg (· + b (ix2 0 k)) (Finset.sum_congr rfl fun e _ => ?_)
  rw [h r e hr]
  unfold rowsOf
  rw [dif_pos (show min n 10 * 192 + ((ix2 r e : S192x1024.Idx) 0).val < 2048 from hr)]
  rfl

/-- The body at a point whose two row blocks hold the block's rows: before twelve the projections advance, from twelve on
    the point's block of the result is left in window 8's buffer. -/
theorem point_runs (t : Fin cfg0.N) (x1 x2 : FVec Ideal S192x1024 .f32) (x9 : FVec Ideal S256x1024 .f32)
    (hx1 : ∀ (r : Fin 192) (k : Fin 1024), min t.val 10 * 192 + r.val < 2048 → x1 (ix2 r k) = rowsOf (xOf m c) t.val (ix2 r k))
    (hx2 : ∀ (r : Fin 192) (k : Fin 1024), min t.val 10 * 192 + r.val < 2048 → x2 (ix2 r k) = rowsOf (yOf m c) t.val (ix2 r k)) :
    pre m c t x1 x2 x9 ⊢ wp frame (wpE (defs₀ (F := Ideal)) Variants.none c none) Set.univ (bodyAt0 t)
      (fun _ => post m c t x1 x2 (if 12 ≤ t.val then blockOut m c t else x9)) := by
  unfold pre post scratch
  iintro ⟨⟨⟨%f, %g, %a, %w1, %w2, %w3, %hs, S0, S1, S2, S3, S4, S5⟩, Hg⟩, Ho, ⟨H0, H1, H2, H3, H4, H5, H6, H7, H8⟩⟩
  obtain ⟨hH, hw⟩ := hs
  by_cases ht : t.val < 12
  · rw [if_neg (by omega)]
    have hH' : Holds (qOf m c) (kvOf m c) (t.val + 1) (queriesAfter (grid0.coords t) f x1 (wqOf m c) (bqOf m c))
        (keysAfter (grid0.coords t) g x2 (wkvOf m c) (bkvOf m c)) (anchorsAfter (grid0.coords t) a x2 (wkvOf m c) (bkvOf m c)) :=
      hH.step (qOf m c) (kvOf m c) ht x1 x2 _ _ _ _ (fun r n hr => projected (xOf m c) x1 (wqOf m c) (bqOf m c) t.val hx1 r n hr)
        (fun r n hr => projected (yOf m c) x2 (wkvOf m c) (bkvOf m c) t.val hx2 r n hr)
    by_cases h0 : t.val = 0
    · iapply (first_point (F := Ideal) c (grid0.coords t) _ _ _ _ _ _ _ _ _ _ _ _ _ _ _ _ _ _ _ _ _ _ _ _ _ _ _ _ _ _
        (first_iff t |>.mpr h0) (project_iff t |>.mpr ht) (fun h => absurd ((result_iff t).mp h) (by omega))
        x1 x2 (wqOf m c) (bqOf m c) (wkvOf m c) (bkvOf m c) (woOf m c) (boOf m c) x9 f g a w1 w2 w3 _)
      isplitl [H0 H1 H2 H3 H4 H5 H6 H7 H8 S0 S1 S2 S3 S4 S5]
      · isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [S0]; · iexact S0
        isplitl [S1]; · iexact S1
        isplitl [S2]; · iexact S2
        isplitl [S3]; · iexact S3
        isplitl [S4]; · iexact S4
        iexact S5
      iintro ⟨H0, H1, H2, H3, H4, H5, H6, H7, H8, S0, S1, S2, S3, S4, S5⟩
      isplitl [S0 S1 S2 S3 S4 S5 Hg]
      · isplitl [S0 S1 S2 S3 S4 S5]
        · iexists _, _, _, _, _, _
          isplitr; swap
          · isplitl [S0]; · iexact S0
            isplitl [S1]; · iexact S1
            isplitl [S2]; · iexact S2
            isplitl [S3]; · iexact S3
            isplitl [S4]; · iexact S4
            iexact S5
          ipureintro
          exact ⟨by rw [cast_wq, cast_wkv]; exact hH', fun _ => ⟨cast_wq _, cast_wkv _, cast_wo _⟩⟩
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · obtain ⟨rfl, rfl, rfl⟩ := hw (by omega)
      iapply (projecting_point (F := Ideal) c (grid0.coords t) _ _ _ _ _ _ _ _ _ _ _ _ _ _ _ _ _ _ _ _ _ _ _ _ _ _ _ _ _ _
        (fun h => h0 ((first_iff t).mp h)) (project_iff t |>.mpr ht) (fun h => absurd ((result_iff t).mp h) (by omega))
        x1 x2 (wqOf m c) (bqOf m c) (wkvOf m c) (bkvOf m c) (woOf m c) (boOf m c) x9 f g a _ _ _ _)
      isplitl [H0 H1 H2 H3 H4 H5 H6 H7 H8 S0 S1 S2 S3 S4 S5]
      · isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [S0]; · iexact S0
        isplitl [S1]; · iexact S1
        isplitl [S2]; · iexact S2
        isplitl [S3]; · iexact S3
        isplitl [S4]; · iexact S4
        iexact S5
      iintro ⟨H0, H1, H2, H3, H4, H5, H6, H7, H8, S0, S1, S2, S3, S4, S5⟩
      isplitl [S0 S1 S2 S3 S4 S5 Hg]
      · isplitl [S0 S1 S2 S3 S4 S5]
        · iexists _, _, _, _, _, _
          isplitr; swap
          · isplitl [S0]; · iexact S0
            isplitl [S1]; · iexact S1
            isplitl [S2]; · iexact S2
            isplitl [S3]; · iexact S3
            isplitl [S4]; · iexact S4
            iexact S5
          ipureintro
          exact ⟨hH', fun _ => ⟨rfl, rfl, rfl⟩⟩
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
  · rw [if_pos (by omega)]
    obtain ⟨rfl, rfl, rfl⟩ := hw (by omega)
    have hH' : Holds (qOf m c) (kvOf m c) 12 f g a := hH.later (qOf m c) (kvOf m c) (by omega) 12
    have hout : resultAt (grid0.coords t) f g a (woOf m c) (boOf m c) = blockOut m c t := by
      funext y
      refine Eq.trans ?_ (resultAt_apply (qOf m c) (kvOf m c) (by omega) hH' (woOf m c) (boOf m c) (y 0) (y 1))
      exact congrArg _ (funext fun ax => by fin_cases ax <;> rfl)
    rw [← hout]
    iapply (result_point (F := Ideal) c (grid0.coords t) _ _ _ _ _ _ _ _ _ _ _ _ _ _ _ _ _ _ _ _ _ _ _ _ _ _ _ _ _ _
      (fun h => absurd ((first_iff t).mp h) (by omega)) (fun h => ht ((project_iff t).mp h)) (result_iff t |>.mpr (by omega))
      x1 x2 (wqOf m c) (bqOf m c) (wkvOf m c) (bkvOf m c) (woOf m c) (boOf m c) x9 f g a _ _ _ _)
    isplitl [H0 H1 H2 H3 H4 H5 H6 H7 H8 S0 S1 S2 S3 S4 S5]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [S0]; · iexact S0
      isplitl [S1]; · iexact S1
      isplitl [S2]; · iexact S2
      isplitl [S3]; · iexact S3
      isplitl [S4]; · iexact S4
      iexact S5
    iintro ⟨H0, H1, H2, H3, H4, H5, H6, H7, H8, S0, S1, S2, S3, S4, S5⟩
    isplitl [S0 S1 S2 S3 S4 S5 Hg]
    · isplitl [S0 S1 S2 S3 S4 S5]
      · iexists _, _, _, _, _, _
        isplitr; swap
        · isplitl [S0]; · iexact S0
          isplitl [S1]; · iexact S1
          isplitl [S2]; · iexact S2
          isplitl [S3]; · iexact S3
          isplitl [S4]; · iexact S4
          iexact S5
        ipureintro
        exact ⟨hH'.later (qOf m c) (kvOf m c) le_rfl _, fun _ => ⟨rfl, rfl, rfl⟩⟩
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-! ## The launch -/

/-- The body table's row at the point is the body as the pipeline calls it. -/
theorem defs₀_row (t : Fin cfg0.N) : defs₀ (F := Ideal) .tc cfg0.body (cfg0.bodyArgs t (cfg0.slots t)) = bodyAt0 t := by
  unfold defs₀; rw [Defs.onTc_tc]

/-- Contents that agree with the block's rows on the moved part of window 0 agree with them on the rows inside. -/
theorem rows_of_cut0 (t : Fin cfg0.N) (x1 : FVec Ideal S192x1024 .f32) (x : FVec Ideal S192x1024 .f32)
    (h : win0_0.cut (grid0.coords t) x1 = win0_0.cut (grid0.coords t) x) (r : Fin 192) (k : Fin 1024)
    (hr : min t.val 10 * 192 + r.val < 2048) : x1 (ix2 r k) = x (ix2 r k) := by
  have hm : ∀ a, ((ix2 r k : S192x1024.Idx) a).val < win0_0.xsize (grid0.coords t) a := fun a => by
    fin_cases a
    · show r.val < win0_0.xsize (grid0.coords t) 0
      rw [rows0_0]; split <;> omega
    · show k.val < win0_0.xsize (grid0.coords t) 1
      rw [cols0_0]; exact k.isLt
  exact congrFun h (fun a => ⟨_, hm a⟩)

/-- The same of window 1. -/
theorem rows_of_cut1 (t : Fin cfg0.N) (x1 : FVec Ideal S192x1024 .f32) (x : FVec Ideal S192x1024 .f32)
    (h : win0_1.cut (grid0.coords t) x1 = win0_1.cut (grid0.coords t) x) (r : Fin 192) (k : Fin 1024)
    (hr : min t.val 10 * 192 + r.val < 2048) : x1 (ix2 r k) = x (ix2 r k) := by
  have hm : ∀ a, ((ix2 r k : S192x1024.Idx) a).val < win0_1.xsize (grid0.coords t) a := fun a => by
    fin_cases a
    · show r.val < win0_1.xsize (grid0.coords t) 0
      rw [rows0_1]; split <;> omega
    · show k.val < win0_1.xsize (grid0.coords t) 1
      rw [cols0_1]; exact k.isLt
  exact congrFun h (fun a => ⟨_, hm a⟩)

/-- Window 8's buffer at a point: the point's block from twelve on, before that what the point found. -/
theorem leaves_8 (t : Fin cfg0.N) (d) :
    owns (c : Thread nD τ) (st0_8 t) fullShare (if 12 ≤ t.val then blockOut m c t else (dats m 0 c).before 8 t d)
      ⊢ ((dats m 0 c).leaves 8 t : sProp 𝕄) := by
  unfold Dat.leaves
  by_cases ht : 12 ≤ t.val
  · have hi : cfg0.idle 8 (cfg0.grid.coords t) = false := by
      show (!(k0_cond3 (grid0.coords t) == 1#1)) = false
      rw [(result_iff t).mpr ht]; rfl
    rw [hi, if_pos ht]
    exact .rfl
  · have hi : cfg0.idle 8 (cfg0.grid.coords t) = true := by
      show (!(k0_cond3 (grid0.coords t) == 1#1)) = true
      rw [Bool.not_eq_true', beq_eq_false_iff_ne]
      exact fun h => ht ((result_iff t).mp h)
    have hf : (cfg0.win 8).flush t = false := Bool.eq_false_iff.mpr fun h => ht ((flush0_8 t).mp h)
    rw [hi, hf, if_neg ht]
    iintro H
    iexists d
    iexact H

/-- What the pipeline calls a point's body with is what the body wants, at the contents found. -/
theorem point_obligation (t : Fin cfg0.N) :
    iprop((dats m 0 c).Φ t.castSucc ∗ (dats m 0 c).owesAt () t.castSucc
      ∗ ((∃ d, owns (c : Thread nD τ) (st0_0 t) fullShare ((dats m 0 c).before 0 t d)) ∗ (∃ d, owns (c : Thread nD τ) (st0_1 t) fullShare ((dats m 0 c).before 1 t d))
        ∗ (∃ d, owns (c : Thread nD τ) (st0_2 t) fullShare ((dats m 0 c).before 2 t d)) ∗ (∃ d, owns (c : Thread nD τ) (st0_3 t) fullShare ((dats m 0 c).before 3 t d))
        ∗ (∃ d, owns (c : Thread nD τ) (st0_4 t) fullShare ((dats m 0 c).before 4 t d)) ∗ (∃ d, owns (c : Thread nD τ) (st0_5 t) fullShare ((dats m 0 c).before 5 t d))
        ∗ (∃ d, owns (c : Thread nD τ) (st0_6 t) fullShare ((dats m 0 c).before 6 t d)) ∗ (∃ d, owns (c : Thread nD τ) (st0_7 t) fullShare ((dats m 0 c).before 7 t d))
        ∗ (∃ d, owns (c : Thread nD τ) (st0_8 t) fullShare ((dats m 0 c).before 8 t d))))
      ⊢ wp frame (wpE (defs₀ (F := Ideal)) Variants.none c none) Set.univ (bodyAt0 t) (fun _ =>
        iprop((dats m 0 c).Φ t.succ ∗ (dats m 0 c).owesAt () t.succ
          ∗ (rest0 m c t ∗ rest1 m c t ∗ owns (c : Thread nD τ) (st0_2 t) fullShare (wqOf m c) ∗ owns (c : Thread nD τ) (st0_3 t) fullShare (bqOf m c)
            ∗ owns (c : Thread nD τ) (st0_4 t) fullShare (wkvOf m c) ∗ owns (c : Thread nD τ) (st0_5 t) fullShare (bkvOf m c)
            ∗ owns (c : Thread nD τ) (st0_6 t) fullShare (woOf m c) ∗ owns (c : Thread nD τ) (st0_7 t) fullShare (boOf m c)
            ∗ (dats m 0 c).leaves 8 t))) := by
  simp only [before0_2, before0_3, before0_4, before0_5, before0_6, before0_7]
  rw [show (dats m 0 c).Φ t.castSucc = iprop(scratch m c t.val ∗ ∃ r, prngReg c r) from rfl,
    show (dats m 0 c).Φ t.succ = iprop(scratch m c (t.val + 1) ∗ ∃ r, prngReg c r) from rfl]
  iintro ⟨HΦ, Ho, ⟨⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩⟩
  have h0 := before0_0 m c t d0
  have h1 := before0_1 m c t d1
  iapply (triple_restated (point_runs m c t ((dats m 0 c).before 0 t d0) ((dats m 0 c).before 1 t d1) ((dats m 0 c).before 8 t d8)
    (rows_of_cut0 t _ _ h0) (rows_of_cut1 t _ _ h1)) rfl .rfl (fun _ => by
      unfold post
      iintro ⟨HΦ, Ho, ⟨H0, H1, H2, H3, H4, H5, H6, H7, H8⟩⟩
      isplitl [HΦ]; · iexact HΦ
      isplitl [Ho]; · iexact Ho
      isplitl [H0]
      · iexists (dats m 0 c).before 0 t d0
        rw [win0_0.fill_congr_cut _ h0]
        iexact H0
      isplitl [H1]
      · iexists (dats m 0 c).before 1 t d1
        rw [win0_1.fill_congr_cut _ h1]
        iexact H1
      isplitl [H2]; · iexact H2
      isplitl [H3]; · iexact H3
      isplitl [H4]; · iexact H4
      isplitl [H5]; · iexact H5
      isplitl [H6]; · iexact H6
      isplitl [H7]; · iexact H7
      iapply (leaves_8 m c t d8); iexact H8))
  unfold pre
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation. -/
theorem body_obligation (c : Dev nD) :
    BodyObligationLoose (dats m 0 c) (defs₀ (F := Ideal)) Variants.none () Set.univ := fun t => by
  rw [bigSep_W0, bigSep_W0, defs₀_row]
  exact triple_restated (point_obligation m c t) rfl .rfl fun _ => .rfl

/-- Before the first point the scratch may hold anything. -/
theorem scratch_in : Pipeline.ΦA spec0 c ⊢ ((dats m 0 c).Φ 0 : sProp 𝕄) := by
  show Pipeline.ΦA spec0 c ⊢ iprop(scratch m c 0 ∗ ∃ r, prngReg c r)
  unfold Pipeline.ΦA scratch
  rw [scopedRest0_eq]
  simp only [← owns_whole]
  iintro ⟨⟨⟨%f, S0⟩, ⟨%g, S1⟩, ⟨%a, S2⟩, ⟨%w1, S3⟩, ⟨%w2, S4⟩, ⟨%w3, S5⟩⟩, Hg⟩
  isplitl [S0 S1 S2 S3 S4 S5]
  · iexists f, g, a, w1, w2, w3
    isplitr
    · ipureintro; exact ⟨Holds.zero _ _ _ _ _, fun h => absurd h (by omega)⟩
    isplitl [S0]; · iexact S0
    isplitl [S1]; · iexact S1
    isplitl [S2]; · iexact S2
    isplitl [S3]; · iexact S3
    isplitl [S4]; · iexact S4
    iexact S5
  iexact Hg

/-- After the last point what it holds is forgotten. -/
theorem scratch_out : ((dats m 0 c).Φ (Fin.last cfg0.N) : sProp 𝕄) ⊢ Pipeline.ΦA spec0 c := by
  show iprop(scratch m c cfg0.N ∗ ∃ r, prngReg c r) ⊢ Pipeline.ΦA spec0 c
  unfold Pipeline.ΦA scratch
  rw [scopedRest0_eq]
  simp only [← owns_whole]
  iintro ⟨⟨%f, %g, %a, %w1, %w2, %w3, -, S0, S1, S2, S3, S4, S5⟩, Hg⟩
  isplitl [S0 S1 S2 S3 S4 S5]
  · isplitl [S0]; · iexists f; iexact S0
    isplitl [S1]; · iexists g; iexact S1
    isplitl [S2]; · iexists a; iexact S2
    isplitl [S3]; · iexists w1; iexact S3
    isplitl [S4]; · iexists w2; iexact S4
    iexists w3; iexact S5
  iexact Hg

set_option backward.isDefEq.respectTransparency.types false in
/-- From any memory with zero counters every fair run of @main terminates, every array at what the proof data say and
    every counter at zero. -/
theorem run_main :
    θ_run defs (onTc (τ := τ) (main (F := Ideal))) (s₀ m ρ)
      (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := body_obligation m) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := fun _ _ => rfl) (hin := scratch_in m) (hout := scratch_out m)
    (hQ' := fun _ h => h)

/-! ## The result -/

/-- The result array, row `256 g + r` the row `r` of the block `g`. -/
def resultOf : FVec Ideal S2048x1024 .f32 := fun y =>
  outputOf (qOf m c) (kvOf m c) (fun k n => woOf m c (ix2 k n)) (fun n => boOf m c (ix2 0 n))
    ⟨(y 0).val / 256, by have : (y 0).val < 2048 := (y 0).isLt; omega⟩ ⟨(y 0).val % 256, Nat.mod_lt _ (by omega)⟩ (y 1)

/-- The output window's array after the run. -/
theorem arr_8 : (dats m 0 c).arrAt 8 cfg0.N = resultOf m c := by
  refine (dats m 0 c).arrAt_eq_of_covers 8 _ (by decide +kernel) fun t hf y => ?_
  have ht : 12 ≤ t.val := (flush0_8 t).mp hf
  have hN : t.val < 20 := Nat.lt_of_lt_of_eq t.isLt N_0
  have y0 : (y 0).val < 256 := (y 0).isLt
  have e0 : ((win0_8.blk t).view.emb y 0).val = (t.val - 12) * 256 + (y 0).val :=
    (win0_8.rect_emb_val_off t y 0).trans (by rw [idx0_8]; rfl)
  have e1 : ((win0_8.blk t).view.emb y 1).val = (y 1).val :=
    (win0_8.rect_emb_val_off t y 1).trans (by rw [idx0_8]; exact Nat.zero_add _)
  show blockOut m c t y = resultOf m c ((win0_8.blk t).view.emb y)
  unfold blockOut resultOf
  congr 1
  · exact Fin.ext (by show t.val - 12 = ((win0_8.blk t).view.emb y 0).val / 256; omega)
  · exact Fin.ext (by show (y 0).val = ((win0_8.blk t).view.emb y 0).val % 256; omega)
  · exact Fin.ext e1.symm

/-! ## The arrays in terms of the arguments -/

/-- The query rows are the first argument. -/
theorem xOf_apply (i : Fin 2048) (k : Fin 1024) : xOf m c (ix2 i k) = m ((c : Thread nD τ).loc main_arg0) (ix3 (0 : Fin 1) i k) := by
  unfold xOf
  show StableHlo.after hostOps0 (fun b => m (c, b)) (Proc.tc.devRef main_v0) (ix2 i k) = _
  entry_read
  pointwise
/-- The key and value rows are the second argument. -/
theorem yOf_apply (i : Fin 2048) (k : Fin 1024) : yOf m c (ix2 i k) = m ((c : Thread nD τ).loc main_arg1) (ix3 (0 : Fin 1) i k) := by
  unfold yOf
  show StableHlo.after hostOps0 (fun b => m (c, b)) (Proc.tc.devRef main_v1) (ix2 i k) = _
  entry_read
  pointwise
/-- The bias row is the argument. -/
theorem bqOf_apply (n : Fin 1024) : bqOf m c (ix2 (0 : Fin 1) n) = m ((c : Thread nD τ).loc main_arg3) (ix1 n) := by
  unfold bqOf
  show StableHlo.after hostOps0 (fun b => m (c, b)) (Proc.tc.devRef main_v2) (ix2 (0 : Fin 1) n) = _
  entry_read
  pointwise
/-- The bias row is the argument. -/
theorem bkvOf_apply (n : Fin 2048) : bkvOf m c (ix2 (0 : Fin 1) n) = m ((c : Thread nD τ).loc main_arg5) (ix1 n) := by
  unfold bkvOf
  show StableHlo.after hostOps0 (fun b => m (c, b)) (Proc.tc.devRef main_v3) (ix2 (0 : Fin 1) n) = _
  entry_read
  pointwise
/-- The bias row is the argument. -/
theorem boOf_apply (n : Fin 1024) : boOf m c (ix2 (0 : Fin 1) n) = m ((c : Thread nD τ).loc main_arg7) (ix1 n) := by
  unfold boOf
  show StableHlo.after hostOps0 (fun b => m (c, b)) (Proc.tc.devRef main_v4) (ix2 (0 : Fin 1) n) = _
  entry_read
  pointwise
/-- The weight is the argument. -/
theorem wqOf_eq : wqOf m c = m ((c : Thread nD τ).loc main_arg2) := V_main_arg2 m c
/-- The weight is the argument. -/
theorem wkvOf_eq : wkvOf m c = m ((c : Thread nD τ).loc main_arg4) := V_main_arg4 m c
/-- The weight is the argument. -/
theorem woOf_eq : woOf m c = m ((c : Thread nD τ).loc main_arg6) := V_main_arg6 m c

/-- The returned array: the result under a leading axis of extent one. -/
def returned : FVec Ideal S1x2048x1024 .f32 := shapeCast S1x2048x1024 (resultOf m c) shapeCasts_S2048x1024_S1x2048x1024

/-- An element of the returned array is the element of the result. -/
theorem returned_apply (i : Fin 2048) (n : Fin 1024) : returned m c (ix3 (0 : Fin 1) i n) = resultOf m c (ix2 i n) := by
  unfold returned; pointwise

/-- What the line after the region leaves in the returned buffer. -/
theorem tail_v6 : Pipeline.afterTail₀ cfgs (dats m) 0 (V0 m) [hostOps1] c main_v6 = returned m c := by
  unfold Pipeline.afterTail₀
  show StableHlo.after hostOps1 _ (Proc.tc.devRef main_v6) = _
  entry_read
  exact congrArg (fun z => shapeCast S1x2048x1024 z shapeCasts_S2048x1024_S1x2048x1024)
    ((Pipeline.withArrays_arr spec0 winFacts0.arr_inj c (V0 m c) (fun w => (dats m 0 c).arrAt w cfg0.N) 8).trans (arr_8 m c))

/-- The run: the returned buffer ends at `returned`, every argument as it was, every counter at zero. -/
theorem run_value :
    θ_run defs (onTc (τ := τ) (main (F := Ideal))) ⟨m, fun _ => 0, ρ⟩ (fun r => (∀ c : Dev nD,
      r.2.mem ((c.tc : Thread nD τ).loc main_v6) = returned m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨
      ((h.1 c).2 main_v6 (Pipeline.mem_restRefs_of main_v6 (by decide) (by decide))).trans (tail_v6 m c),
      ((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c),
      ((h.1 c).1 2).trans (((dats m 0 c).arrAt_in 2 rfl _).trans (V_main_arg2 m c)),
      ((h.1 c).2 main_arg3 (Pipeline.mem_restRefs_of main_arg3 (by decide) (by decide))).trans (W_main_arg3 m (dats m) c),
      ((h.1 c).1 4).trans (((dats m 0 c).arrAt_in 4 rfl _).trans (V_main_arg4 m c)),
      ((h.1 c).2 main_arg5 (Pipeline.mem_restRefs_of main_arg5 (by decide) (by decide))).trans (W_main_arg5 m (dats m) c),
      ((h.1 c).1 6).trans (((dats m 0 c).arrAt_in 6 rfl _).trans (V_main_arg6 m c)),
      ((h.1 c).2 main_arg7 (Pipeline.mem_restRefs_of main_arg7 (by decide) (by decide))).trans (W_main_arg7 m (dats m) c)⟩, h.2⟩)
    (run_main m ρ)

/-- The frame of the idealized kernel. -/
theorem frame : Cert.quiescent_KernelIdeal := fun m ρ _ =>
  (θ_run defs _ _).mono (fun _ h => ⟨fun c => (h.1 c).2, h.2⟩) (run_value m ρ)

end Cert.KernelIdeal.Own

end
-- ==== Proof.Attention.lean ====
/- Masked attention over the reals, and the two ways it is computed: the kernel's one pass over anchors and a local window,
   without a subtracted maximum, and a row's softmax over all the keys with the row's maximum subtracted. -/
module

public import proofs.«01_k».proof.Proof.KernelIdealBlock

@[expose] public section

noncomputable section

namespace Cert.Attention

open Cert.KernelIdeal.Own
open Idealize.ShloMosaic

/-! ## Sums of reals among the extended reals -/

/-- A finite sum of reals, taken among the extended reals, is the real sum. -/
theorem sum_coe {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- A dot product of reals, taken among the extended reals, is the real one. -/
theorem dot_coe {ι : Type} (s : Finset ι) (f g : ι → ℝ) :
    (∑ i ∈ s, (f i : EReal) * (g i : EReal)) = ((∑ i ∈ s, f i * g i : ℝ) : EReal) := by
  rw [← sum_coe]; exact Finset.sum_congr rfl fun i _ => (EReal.coe_mul _ _).symm

/-- The exponential of a masked real: a weight, zero where the mask is closed. -/
theorem exp_masked (p : Prop) [Decidable p] (s : ℝ) :
    Ideal.exp (if p then (s : EReal) else ⊥) = ((if p then Real.exp s else 0 : ℝ) : EReal) := by
  split <;> simp

/-- A real plus an additive mask of `0` or `-∞` is the real where the mask is open, `-∞` elsewhere. -/
theorem add_mask (p : Prop) [Decidable p] (s : ℝ) :
    (s : EReal) + (if p then (0 : EReal) else ⊥) = if p then (s : EReal) else ⊥ := by
  split
  · rw [add_zero]
  · rw [EReal.add_bot]

/-! ## Attention -/

variable (q : Fin 2048 → Fin 1024 → ℝ) (kv : Fin 2048 → Fin 2048 → ℝ)

/-- Row `i` attends to row `j`: at most 64 apart, or `j` a multiple of three. -/
def Allowed (i j : ℕ) : Prop := (i ≤ j + 64 ∧ j ≤ i + 64) ∨ j % 3 = 0

/-- Whether the mask is open is decidable. -/
instance (i j : ℕ) : Decidable (Allowed i j) := inferInstanceAs (Decidable (_ ∨ _))

/-- The scaled score of query row `i` against key row `j` in head `h`. -/
def score (h : Fin 16) (i j : Fin 2048) : ℝ := (∑ e : Fin 64, q i (qCol h e) * kv j (kCol h e)) * (1 / 8)

/-- The unnormalized weight. -/
def weight (h : Fin 16) (i j : Fin 2048) : ℝ := if Allowed i.val j.val then Real.exp (score q kv h i j) else 0

/-- The attention's output: the weighted mean of the values. -/
def head (h : Fin 16) (i : Fin 2048) (d : Fin 64) : ℝ :=
  (∑ j : Fin 2048, weight q kv h i j * kv j (vCol h d)) / ∑ j : Fin 2048, weight q kv h i j

/-- A weight is not negative. -/
theorem weight_nonneg (h : Fin 16) (i j : Fin 2048) : 0 ≤ weight q kv h i j := by
  unfold weight; split
  · exact (Real.exp_pos _).le
  · exact le_refl _

/-- The weights of a row have a positive sum: row 0 is a multiple of three. -/
theorem weights_pos (h : Fin 16) (i : Fin 2048) : 0 < ∑ j : Fin 2048, weight q kv h i j := by
  refine Finset.sum_pos' (fun j _ => weight_nonneg q kv h i j) ⟨0, Finset.mem_univ _, ?_⟩
  unfold weight
  rw [if_pos (show Allowed i.val (0 : Fin 2048).val from Or.inr rfl)]
  exact Real.exp_pos _

/-! ## The softmax with a subtracted maximum -/

/-- A row's softmax over masked real scores, shifted by any real, against real values: the weighted mean. -/
theorem softmax_eq {n : ℕ} (P : Fin n → Prop) [DecidablePred P] (s v : Fin n → ℝ) (M : ℝ) (hP : ∃ j, P j) :
    (∑ j, Ideal.div (Ideal.exp ((if P j then (s j : EReal) else ⊥) - (M : EReal)))
        (0 + ∑ k, Ideal.exp ((if P k then (s k : EReal) else ⊥) - (M : EReal))) * (v j : EReal))
      = (((∑ j, (if P j then Real.exp (s j) else 0) * v j) / ∑ j, (if P j then Real.exp (s j) else 0) : ℝ) : EReal) := by
  have e : ∀ j, Ideal.exp ((if P j then (s j : EReal) else ⊥) - (M : EReal))
      = (((if P j then Real.exp (s j) else 0) * Real.exp (-M) : ℝ) : EReal) := fun j => by
    split
    · rw [← EReal.coe_sub, Ideal.exp_coe, sub_eq_add_neg, Real.exp_add]
    · rw [EReal.bot_sub, Ideal.exp_bot, zero_mul, EReal.coe_zero]
  have hpos : 0 < ∑ j, (if P j then Real.exp (s j) else 0) := by
    obtain ⟨j, hj⟩ := hP
    refine Finset.sum_pos' (fun k _ => ?_) ⟨j, Finset.mem_univ _, ?_⟩
    · split
      · exact (Real.exp_pos _).le
      · exact le_refl _
    · rw [if_pos hj]; exact Real.exp_pos _
  have hM : 0 < Real.exp (-M) := Real.exp_pos _
  simp only [e]
  rw [sum_coe, zero_add, ← Finset.sum_mul]
  have hne : (∑ j, (if P j then Real.exp (s j) else 0)) * Real.exp (-M) ≠ 0 := (mul_pos hpos hM).ne'
  simp only [Ideal.div_coe hne, ← EReal.coe_mul]
  rw [sum_coe, Finset.sum_div]
  congr 1
  refine Finset.sum_congr rfl fun j _ => ?_
  field_simp

/-! ## The kernel's sum over anchors and a local window -/

/-- A function of the rows, extended by zero. -/
def extend (f : Fin 2048 → ℝ) (j : ℕ) : ℝ := if h : j < 2048 then f ⟨j, h⟩ else 0

/-- The extension agrees with the function on its own range. -/
theorem extend_val (f : Fin 2048 → ℝ) (j : Fin 2048) : extend f j.val = f j := dif_pos j.isLt

/-- The anchors and the near rows that are no multiple of three together are the allowed rows, each once. -/
theorem regroup (f : Fin 2048 → ℝ) (g : Fin 8) (r : Fin 256) :
    (∑ a : Fin 768, if a.val < 683 then extend f (3 * a.val) else 0)
      + (∑ l : Fin 384, if Near (g.val * 256 + r.val) (base g.val + l.val) then f (lRow g l) else 0)
      = ∑ j : Fin 2048, if Allowed (qRow g r).val j.val then f j else 0 := by
  have h1 : (∑ a : Fin 768, if a.val < 683 then extend f (3 * a.val) else 0)
      = ∑ j ∈ (Finset.range 2048).filter (fun j => j % 3 = 0), extend f j := by
    rw [Fin.sum_univ_eq_sum_range (fun a => if a < 683 then extend f (3 * a) else 0) 768, ← Finset.sum_filter]
    refine Finset.sum_nbij (fun a => 3 * a) ?_ ?_ ?_ (fun _ _ => rfl)
    · intro a ha
      simp only [Finset.mem_filter, Finset.mem_range] at ha ⊢
      omega
    · intro a _ b _ hab
      exact Nat.eq_of_mul_eq_mul_left (by omega) hab
    · intro j hj
      simp only [Finset.coe_filter, Finset.mem_range, Set.mem_setOf_eq, Set.mem_image] at hj ⊢
      exact ⟨j / 3, by omega, by omega⟩
  have h2 : (∑ l : Fin 384, if Near (g.val * 256 + r.val) (base g.val + l.val) then f (lRow g l) else 0)
      = ∑ j ∈ (Finset.range 2048).filter (fun j => Near (g.val * 256 + r.val) j), extend f j := by
    have hg := g.isLt
    have hr := r.isLt
    have hb : base g.val = min (g.val * 256 - 64) 1664 := rfl
    have e : ∀ l : Fin 384, f (lRow g l) = extend f (base g.val + l.val) := fun l => (extend_val f (lRow g l)).symm
    simp only [e]
    rw [Fin.sum_univ_eq_sum_range (fun l => if Near (g.val * 256 + r.val) (base g.val + l) then extend f (base g.val + l) else 0) 384,
      ← Finset.sum_filter]
    refine Finset.sum_nbij (fun l => base g.val + l) ?_ ?_ ?_ (fun _ _ => rfl)
    · intro l hl
      simp only [Finset.mem_filter, Finset.mem_range] at hl ⊢
      exact ⟨by omega, hl.2⟩
    · intro a _ b _ hab
      exact Nat.add_left_cancel hab
    · intro j hj
      simp only [Finset.coe_filter, Finset.mem_range, Set.mem_setOf_eq, Set.mem_image] at hj ⊢
      have hn : (g.val * 256 + r.val ≤ j + 64 ∧ j ≤ g.val * 256 + r.val + 64) ∧ j % 3 ≠ 0 := hj.2
      have ej : base g.val + (j - base g.val) = j := by omega
      exact ⟨j - base g.val, ⟨by omega, by rw [ej]; exact hj.2⟩, ej⟩
  have h3 : (∑ j : Fin 2048, if Allowed (qRow g r).val j.val then f j else 0)
      = ∑ j ∈ (Finset.range 2048).filter (fun j => Allowed (g.val * 256 + r.val) j), extend f j := by
    rw [Finset.sum_filter, ← Fin.sum_univ_eq_sum_range (fun j => if Allowed (g.val * 256 + r.val) j then extend f j else 0) 2048]
    exact Finset.sum_congr rfl fun j _ => by rw [extend_val]
  rw [h1, h2, h3, ← Finset.sum_union]
  · refine Finset.sum_congr ?_ fun _ _ => rfl
    ext j
    simp only [Finset.mem_union, Finset.mem_filter, Finset.mem_range]
    unfold Near Allowed
    by_cases h : j % 3 = 0
    · simp [h]
    · simp [h]
  · rw [Finset.disjoint_filter]
    intro j _ h0 hn
    exact hn.2 h0

/-- The scale is one eighth. -/
theorem scale_eq : scaleWord = ((1 / 8 : ℝ) : EReal) := by
  show Ideal.ofBits .bf16 0x3E00#16 = _
  simp [Ideal.ofBits, Ideal.ieee]
  norm_num
  rw [← EReal.coe_mul]
  norm_num

/-- The anchor rows of real keys and values are reals. -/
theorem anchor_coe (a : ℕ) (n : Fin 2048) :
    anchor (fun j n => ((kv j n : ℝ) : EReal)) a n = ((if a < 683 then extend (fun j => kv j n) (3 * a) else 0 : ℝ) : EReal) := by
  unfold anchor
  by_cases h : a < 683
  · rw [dif_pos h, if_pos h, extend, dif_pos]
  · rw [dif_neg h, if_neg h, EReal.coe_zero]

/-- The row an anchor is. -/
abbrev aRow (a : Fin 768) (h : a.val < 683) : Fin 2048 := ⟨3 * a.val, by omega⟩

/-- The weight of an anchor. -/
theorem anchor_weight (g : Fin 8) (r : Fin 256) (h : Fin 16) (a : Fin 768) :
    Ideal.exp (anchorScore (fun i n => ((q i n : ℝ) : EReal)) (fun j n => ((kv j n : ℝ) : EReal)) g r h a)
      = ((if a.val < 683 then extend (fun j => Real.exp (score q kv h (qRow g r) j)) (3 * a.val) else 0 : ℝ) : EReal) := by
  unfold anchorScore
  simp only [scale_eq, anchor_coe, ← EReal.coe_mul]
  rw [sum_coe, add_mask, exp_masked]
  congr 1
  by_cases ha : a.val < 683
  · rw [if_pos ha, if_pos ha, extend, dif_pos (by omega : 3 * a.val < 2048)]
    congr 1
    unfold score
    rw [Finset.sum_mul]
    refine Finset.sum_congr rfl fun e _ => ?_
    rw [if_pos ha, extend, dif_pos (by omega : 3 * a.val < 2048)]
    ring
  · rw [if_neg ha, if_neg ha]

/-- The weight of a row of the local window. -/
theorem local_weight (g : Fin 8) (r : Fin 256) (h : Fin 16) (l : Fin 384) :
    Ideal.exp (localScore (fun i n => ((q i n : ℝ) : EReal)) (fun j n => ((kv j n : ℝ) : EReal)) g r h l)
      = ((if Near (g.val * 256 + r.val) (base g.val + l.val) then Real.exp (score q kv h (qRow g r) (lRow g l)) else 0 : ℝ) : EReal) := by
  unfold localScore
  simp only [scale_eq, ← EReal.coe_mul]
  rw [sum_coe, add_mask, exp_masked]
  congr 2
  congr 1
  unfold score
  rw [Finset.sum_mul]
  exact Finset.sum_congr rfl fun e _ => by ring

/-- An element of a head as the kernel computes it, from real queries, keys and values, is masked attention. -/
theorem kernelHead_eq (g : Fin 8) (r : Fin 256) (h : Fin 16) (d : Fin 64) :
    kernelHead (fun i n => ((q i n : ℝ) : EReal)) (fun j n => ((kv j n : ℝ) : EReal)) g r h d = ((head q kv h (qRow g r) d : ℝ) : EReal) := by
  unfold kernelHead
  simp only [anchor_weight, local_weight, anchor_coe, ← EReal.coe_mul]
  rw [sum_coe, sum_coe, sum_coe, sum_coe, ← EReal.coe_add, ← EReal.coe_add]
  have hden := regroup (fun j => Real.exp (score q kv h (qRow g r) j)) g r
  have hnum := regroup (fun j => Real.exp (score q kv h (qRow g r) j) * kv j (vCol h d)) g r
  have e1 : (∑ a : Fin 768, (if a.val < 683 then extend (fun j => Real.exp (score q kv h (qRow g r) j)) (3 * a.val) else 0)
        * (if a.val < 683 then extend (fun j => kv j (vCol h d)) (3 * a.val) else 0))
      = ∑ a : Fin 768, if a.val < 683 then extend (fun j => Real.exp (score q kv h (qRow g r) j) * kv j (vCol h d)) (3 * a.val) else 0 :=
    Finset.sum_congr rfl fun a _ => by
      by_cases ha : a.val < 683
      · simp only [if_pos ha, extend, dif_pos (by omega : 3 * a.val < 2048)]
      · simp only [if_neg ha, zero_mul]
  have e2 : (∑ l : Fin 384, (if Near (g.val * 256 + r.val) (base g.val + l.val) then Real.exp (score q kv h (qRow g r) (lRow g l)) else 0)
        * kv (lRow g l) (vCol h d))
      = ∑ l : Fin 384, if Near (g.val * 256 + r.val) (base g.val + l.val) then
          Real.exp (score q kv h (qRow g r) (lRow g l)) * kv (lRow g l) (vCol h d) else 0 :=
    Finset.sum_congr rfl fun l _ => by rw [ite_mul, zero_mul]
  rw [e1, e2, hden, hnum]
  have hd : (∑ j : Fin 2048, if Allowed (qRow g r).val j.val then Real.exp (score q kv h (qRow g r) j) else 0) ≠ 0 :=
    (weights_pos q kv h (qRow g r)).ne'
  rw [Ideal.div_coe hd, ← EReal.coe_mul]
  unfold head weight
  congr 1
  rw [mul_one_div]
  congr 1
  exact Finset.sum_congr rfl fun j _ => by rw [ite_mul, zero_mul]

end Cert.Attention

end
-- ==== Proof.ReferenceMask.lean ====
/- The reference's mask, element by element: row `i` attends to row `j` where they are at most 64 apart or `j` is a multiple
   of a stride 3, 9, 27, 81, 243 or 729, which is to say of three. -/
module

public import proofs.«01_k».proof.Proof.Gen.ReferenceIdeal.Read
public import proofs.«01_k».proof.Proof.Attention

@[expose] public section

noncomputable section

namespace Cert.ReferenceIdeal.Own

open Cert.ReferenceIdeal Cert.ReferenceIdeal.Gen Cert.ReferenceIdeal.Read
open Idealize.ShloMosaic
open Cert.Attention

/-- The test that a word is a multiple of a stride, as the printed remainder makes it. -/
def multipleBit (s j : BitVec 32) : BitVec 1 :=
  let d := Scalar.select (IntOp.cmpi .eq s 0#32) 1#32 s
  let r := IntOp.remsi .host j d
  IntOp.cmpi .eq (Scalar.select (IntOp.andi (IntOp.cmpi .ne (IntOp.cmpi .slt r 0#32) (IntOp.cmpi .slt d 0#32)) (IntOp.cmpi .ne r 0#32))
    (IntOp.addi r d) r) 0#32

/-- The reference's test of the multiples of 3. -/
theorem multiple_3 : ∀ j : Fin 2048, multipleBit 3#32 (BitVec.ofNat 32 j.val) = if j.val % 3 = 0 then 1#1 else 0#1 := by decide +kernel
/-- The reference's test of the multiples of 9. -/
theorem multiple_9 : ∀ j : Fin 2048, multipleBit 9#32 (BitVec.ofNat 32 j.val) = if j.val % 9 = 0 then 1#1 else 0#1 := by decide +kernel
/-- The reference's test of the multiples of 27. -/
theorem multiple_27 : ∀ j : Fin 2048, multipleBit 27#32 (BitVec.ofNat 32 j.val) = if j.val % 27 = 0 then 1#1 else 0#1 := by decide +kernel
/-- The reference's test of the multiples of 81. -/
theorem multiple_81 : ∀ j : Fin 2048, multipleBit 81#32 (BitVec.ofNat 32 j.val) = if j.val % 81 = 0 then 1#1 else 0#1 := by decide +kernel
/-- The reference's test of the multiples of 243. -/
theorem multiple_243 : ∀ j : Fin 2048, multipleBit 243#32 (BitVec.ofNat 32 j.val) = if j.val % 243 = 0 then 1#1 else 0#1 := by decide +kernel
/-- The reference's test of the multiples of 729. -/
theorem multiple_729 : ∀ j : Fin 2048, multipleBit 729#32 (BitVec.ofNat 32 j.val) = if j.val % 729 = 0 then 1#1 else 0#1 := by decide +kernel

/-- The disjunction of two bits. -/
theorem or_bits (p q : Prop) [Decidable p] [Decidable q] :
    IntOp.ori (if p then 1#1 else 0#1) (if q then 1#1 else 0#1) = if p ∨ q then 1#1 else 0#1 := by
  by_cases hp : p <;> by_cases hq : q <;> simp [hp, hq, IntOp.ori]

/-- The reference's band: the columns at most 64 away. -/
theorem v25_at (i j : Fin 2048) : val_main_v25 (F := Ideal) (ix2 i j) = if i.val ≤ j.val + 64 ∧ j.val ≤ i.val + 64 then 1#1 else 0#1 :=
  Cert.KernelIdeal.Own.near_bit i.val j.val i.isLt j.isLt

/-- One level of the reference's mask: the columns that a power of three divides. -/
theorem v29_at (i j : Fin 2048) : val_main_v29 (F := Ideal) (ix2 i j) = if j.val % 3 = 0 then 1#1 else 0#1 :=
  (show _ = multipleBit 3#32 (BitVec.ofNat 32 j.val) from rfl).trans (multiple_3 j)
/-- One level of the reference's mask: the columns that a power of three divides. -/
theorem v34_at (i j : Fin 2048) : val_main_v34 (F := Ideal) (ix2 i j) = if j.val % 9 = 0 then 1#1 else 0#1 :=
  (show _ = multipleBit 9#32 (BitVec.ofNat 32 j.val) from rfl).trans (multiple_9 j)
/-- One level of the reference's mask: the columns that a power of three divides. -/
theorem v39_at (i j : Fin 2048) : val_main_v39 (F := Ideal) (ix2 i j) = if j.val % 27 = 0 then 1#1 else 0#1 :=
  (show _ = multipleBit 27#32 (BitVec.ofNat 32 j.val) from rfl).trans (multiple_27 j)
/-- One level of the reference's mask: the columns that a power of three divides. -/
theorem v44_at (i j : Fin 2048) : val_main_v44 (F := Ideal) (ix2 i j) = if j.val % 81 = 0 then 1#1 else 0#1 :=
  (show _ = multipleBit 81#32 (BitVec.ofNat 32 j.val) from rfl).trans (multiple_81 j)
/-- One level of the reference's mask: the columns that a power of three divides. -/
theorem v49_at (i j : Fin 2048) : val_main_v49 (F := Ideal) (ix2 i j) = if j.val % 243 = 0 then 1#1 else 0#1 :=
  (show _ = multipleBit 243#32 (BitVec.ofNat 32 j.val) from rfl).trans (multiple_243 j)
/-- One level of the reference's mask: the columns that a power of three divides. -/
theorem v54_at (i j : Fin 2048) : val_main_v54 (F := Ideal) (ix2 i j) = if j.val % 729 = 0 then 1#1 else 0#1 :=
  (show _ = multipleBit 729#32 (BitVec.ofNat 32 j.val) from rfl).trans (multiple_729 j)

/-- The mask. -/
theorem mask_at (i j : Fin 2048) : val_main_v55 (F := Ideal) (ix2 i j) = if Allowed i.val j.val then 1#1 else 0#1 := by
  rw [val_main_v55_apply, val_main_v50_apply, val_main_v45_apply, val_main_v40_apply, val_main_v35_apply, val_main_v30_apply,
    v25_at, v29_at, v34_at, v39_at, v44_at, v49_at, v54_at]
  simp only [or_bits]
  refine if_congr ?_ rfl rfl
  unfold Allowed
  omega

end Cert.ReferenceIdeal.Own

end
-- ==== Proof.ReferenceValue.lean ====
/- What the reference computes, element by element, where the projected queries, keys and values are reals. -/
module

public import proofs.«01_k».proof.Proof.ReferenceMask

@[expose] public section

noncomputable section

namespace Cert.ReferenceIdeal.Own

open Cert.ReferenceIdeal Cert.ReferenceIdeal.Gen Cert.ReferenceIdeal.Read
open Idealize.ShloMosaic
open Cert.Attention
open Cert.KernelIdeal.Own (qCol kCol vCol)

variable (x0 x1 : FVec Ideal S1x2048x1024 .f32) (x2 : FVec Ideal S1024x1024 .f32) (x3 : FVec Ideal S1024 .f32)
  (x4 : FVec Ideal S1024x2048 .f32) (x5 : FVec Ideal S2048 .f32) (x6 : FVec Ideal S1024x1024 .f32) (x7 : FVec Ideal S1024 .f32)

/-! ## The projections -/

/-- The projected queries. -/
theorem queries_at (i : Fin 2048) (n : Fin 1024) :
    val_main_v3 (F := Ideal) x0 x2 x3 (ix3 (0 : Fin 1) i n) = (∑ k : Fin 1024, x0 (ix3 (0 : Fin 1) i k) * x2 (ix2 k n)) + x3 (ix1 n) := by
  rw [val_main_v3_apply, val_main_v0_apply, val_main_v2_apply, val_main_v1_apply]
  have el : ∀ k : Fin 1024, lidx_main_v0 (ix3 (0 : Fin 1) i n) k = ix3 (0 : Fin 1) i k := fun k => funext fun a => by
    match a with | ⟨0, _⟩ => rfl | ⟨1, _⟩ => rfl | ⟨2, _⟩ => rfl
  have er : ∀ k : Fin 1024, ridx_main_v0 (ix3 (0 : Fin 1) i n) k = ix2 k n := fun k => funext fun a => by
    match a with | ⟨0, _⟩ => rfl | ⟨1, _⟩ => rfl
  have eb : idx_main_v1 (idx_main_v2 (ix3 (0 : Fin 1) i n)) = ix1 n := funext fun a => by match a with | ⟨0, _⟩ => rfl
  simp only [el, er, eb]
  rfl

/-- The projected keys and values. -/
theorem keys_at (j : Fin 2048) (n : Fin 2048) :
    val_main_v7 (F := Ideal) x1 x4 x5 (ix3 (0 : Fin 1) j n) = (∑ k : Fin 1024, x1 (ix3 (0 : Fin 1) j k) * x4 (ix2 k n)) + x5 (ix1 n) := by
  rw [val_main_v7_apply, val_main_v4_apply, val_main_v6_apply, val_main_v5_apply]
  have el : ∀ k : Fin 1024, lidx_main_v4 (ix3 (0 : Fin 1) j n) k = ix3 (0 : Fin 1) j k := fun k => funext fun a => by
    match a with | ⟨0, _⟩ => rfl | ⟨1, _⟩ => rfl | ⟨2, _⟩ => rfl
  have er : ∀ k : Fin 1024, ridx_main_v4 (ix3 (0 : Fin 1) j n) k = ix2 k n := fun k => funext fun a => by
    match a with | ⟨0, _⟩ => rfl | ⟨1, _⟩ => rfl
  have eb : idx_main_v5 (idx_main_v6 (ix3 (0 : Fin 1) j n)) = ix1 n := funext fun a => by match a with | ⟨0, _⟩ => rfl
  simp only [el, er, eb]
  rfl

/-- A head's queries. -/
theorem headQueries_at (h : Fin 16) (i : Fin 2048) (e : Fin 64) :
    val_main_v15 (F := Ideal) x0 x2 x3 (ix4 (0 : Fin 1) h i e) = val_main_v3 (F := Ideal) x0 x2 x3 (ix3 (0 : Fin 1) i (qCol h e)) := by
  rw [val_main_v15_apply, val_main_v14_apply]
  refine congrArg _ (funext fun a => ?_)
  match a with
  | ⟨0, _⟩ => rfl
  | ⟨1, _⟩ => exact Fin.ext (by show (((0 * 2048 + i.val) * 16 + h.val) * 64 + e.val) / 1024 % 2048 = i.val; omega)
  | ⟨2, _⟩ => exact Fin.ext (by show (((0 * 2048 + i.val) * 16 + h.val) * 64 + e.val) % 1024 = h.val * 64 + e.val; omega)

/-- Keys and values before they are parted. -/
theorem parts_at (s : Fin 2) (h : Fin 16) (j : Fin 2048) (e : Fin 64) :
    val_main_v9 (F := Ideal) x1 x4 x5 (ix5 s (0 : Fin 1) h j e)
      = val_main_v7 (F := Ideal) x1 x4 x5 (ix3 (0 : Fin 1) j (⟨(s.val * 16 + h.val) * 64 + e.val, by omega⟩ : Fin 2048)) := by
  rw [val_main_v9_apply, val_main_v8_apply]
  refine congrArg _ (funext fun a => ?_)
  match a with
  | ⟨0, _⟩ => rfl
  | ⟨1, _⟩ => exact Fin.ext (by show ((((0 * 2048 + j.val) * 2 + s.val) * 16 + h.val) * 64 + e.val) / 2048 % 2048 = j.val; omega)
  | ⟨2, _⟩ => exact Fin.ext (by show ((((0 * 2048 + j.val) * 2 + s.val) * 16 + h.val) * 64 + e.val) % 2048 = (s.val * 16 + h.val) * 64 + e.val; omega)

/-- A head's keys. -/
theorem headKeys_at (h : Fin 16) (j : Fin 2048) (e : Fin 64) :
    val_main_v11 (F := Ideal) x1 x4 x5 (ix4 (0 : Fin 1) h j e) = val_main_v7 (F := Ideal) x1 x4 x5 (ix3 (0 : Fin 1) j (kCol h e)) := by
  rw [val_main_v11_apply, val_main_v10_apply]
  have e1 : idx_main_v10 (idx_main_v11 (ix4 (0 : Fin 1) h j e)) = ix5 (0 : Fin 2) (0 : Fin 1) h j e := funext fun a => by
    match a with
    | ⟨0, _⟩ => rfl
    | ⟨1, _⟩ => rfl
    | ⟨2, _⟩ => exact Fin.ext (by show (((0 * 16 + h.val) * 2048 + j.val) * 64 + e.val) / 131072 % 16 = h.val; omega)
    | ⟨3, _⟩ => exact Fin.ext (by show (((0 * 16 + h.val) * 2048 + j.val) * 64 + e.val) / 64 % 2048 = j.val; omega)
    | ⟨4, _⟩ => exact Fin.ext (by show (((0 * 16 + h.val) * 2048 + j.val) * 64 + e.val) % 64 = e.val; omega)
  rw [e1, parts_at]
  exact congrArg (fun n => val_main_v7 (F := Ideal) x1 x4 x5 (ix3 (0 : Fin 1) j n)) (Fin.ext (by
    show (0 * 16 + h.val) * 64 + e.val = h.val * 64 + e.val; omega))

/-- A head's values. -/
theorem headValues_at (h : Fin 16) (j : Fin 2048) (e : Fin 64) :
    val_main_v13 (F := Ideal) x1 x4 x5 (ix4 (0 : Fin 1) h j e) = val_main_v7 (F := Ideal) x1 x4 x5 (ix3 (0 : Fin 1) j (vCol h e)) := by
  rw [val_main_v13_apply, val_main_v12_apply]
  have e1 : idx_main_v12 (idx_main_v13 (ix4 (0 : Fin 1) h j e)) = ix5 (1 : Fin 2) (0 : Fin 1) h j e := funext fun a => by
    match a with
    | ⟨0, _⟩ => rfl
    | ⟨1, _⟩ => rfl
    | ⟨2, _⟩ => exact Fin.ext (by show (((0 * 16 + h.val) * 2048 + j.val) * 64 + e.val) / 131072 % 16 = h.val; omega)
    | ⟨3, _⟩ => exact Fin.ext (by show (((0 * 16 + h.val) * 2048 + j.val) * 64 + e.val) / 64 % 2048 = j.val; omega)
    | ⟨4, _⟩ => exact Fin.ext (by show (((0 * 16 + h.val) * 2048 + j.val) * 64 + e.val) % 64 = e.val; omega)
  rw [e1, parts_at]
  exact congrArg (fun n => val_main_v7 (F := Ideal) x1 x4 x5 (ix3 (0 : Fin 1) j n)) (Fin.ext (by
    show (1 * 16 + h.val) * 64 + e.val = (16 + h.val) * 64 + e.val; omega))

/-! ## The masked scores -/

/-- The word of `-∞`. -/
theorem negInf : Ideal.ofBits .f32 0xFF800000#32 = ⊥ := by simp [Ideal.ofBits, Ideal.ieee]

/-- The word of one eighth. -/
theorem eighth : Ideal.ofBits .f32 0x3E000000#32 = ((1 / 8 : ℝ) : EReal) := by
  simp [Ideal.ofBits, Ideal.ieee]
  norm_num
  rw [← EReal.coe_mul]
  norm_num

/-- The largest of finitely many extended reals, each a real or `-∞` and one of them a real, is a real. -/
theorem max_real {ι : Type} (s : Finset ι) (x : ι → EReal) (hx : ∀ k, x k ≠ ⊤) (k₀ : ι) (hk : k₀ ∈ s) (h₀ : x k₀ ≠ ⊥) :
    ∃ M : ℝ, s.fold max ⊥ x = (M : EReal) := by
  have e : s.fold max ⊥ x = s.sup x := rfl
  have h1 : s.sup x ≠ ⊤ := ((Finset.sup_lt_iff bot_lt_top).2 fun k _ => lt_top_iff_ne_top.2 (hx k)).ne
  have h2 : s.sup x ≠ ⊥ := fun h => h₀ (le_bot_iff.1 (h ▸ Finset.le_sup hk))
  exact ⟨(s.sup x).toReal, e.trans (EReal.coe_toReal h1 h2).symm⟩

/-- An index of the scores by its coordinates. -/
theorem at_rank4 (n : S1x16x2048x2048.Idx) : ∃ (h : Fin 16) (i j : Fin 2048), n = ix4 (0 : Fin 1) h i j ∧ j.val = (n 3).val :=
  ⟨n 1, n 2, n 3, funext fun a => by
    match a with | ⟨0, _⟩ => exact Subsingleton.elim (α := Fin 1) _ _ | ⟨1, _⟩ => rfl | ⟨2, _⟩ => rfl | ⟨3, _⟩ => rfl, rfl⟩

/-- The word of zero. -/
theorem zeroWord : Ideal.ofBits .f32 0x00000000#32 = 0 := by simp [Ideal.ofBits, Ideal.ieee]

variable {x0 x1 x2 x3 x4 x5}
variable {q : Fin 2048 → Fin 1024 → ℝ} {kv : Fin 2048 → Fin 2048 → ℝ}
  (hq : ∀ i n, val_main_v3 (F := Ideal) x0 x2 x3 (ix3 (0 : Fin 1) i n) = ((q i n : ℝ) : EReal))
  (hkv : ∀ j n, val_main_v7 (F := Ideal) x1 x4 x5 (ix3 (0 : Fin 1) j n) = ((kv j n : ℝ) : EReal))
include hq hkv

/-- The scaled score. -/
theorem scores_at (h : Fin 16) (i j : Fin 2048) :
    val_main_v58 (F := Ideal) x0 x1 x2 x3 x4 x5 (ix4 (0 : Fin 1) h i j) = ((score q kv h i j : ℝ) : EReal) := by
  rw [val_main_v58_apply, val_main_v56_apply]
  have el : ∀ k : Fin 64, lidx_main_v56 (ix4 (0 : Fin 1) h i j) k = ix4 (0 : Fin 1) h i k := fun k => funext fun a => by
    match a with | ⟨0, _⟩ => rfl | ⟨1, _⟩ => rfl | ⟨2, _⟩ => rfl | ⟨3, _⟩ => rfl
  have er : ∀ k : Fin 64, ridx_main_v56 (ix4 (0 : Fin 1) h i j) k = ix4 (0 : Fin 1) h j k := fun k => funext fun a => by
    match a with | ⟨0, _⟩ => rfl | ⟨1, _⟩ => rfl | ⟨2, _⟩ => rfl | ⟨3, _⟩ => rfl
  simp only [el, er, headQueries_at, headKeys_at, hq, hkv]
  rw [dot_coe]
  have es : val_main_v57 (F := Ideal) (ix4 (0 : Fin 1) h i j) = ((1 / 8 : ℝ) : EReal) := by
    rw [val_main_v57_apply, val_main_cst_apply]; exact eighth
  rw [es]
  exact (EReal.coe_mul _ _).symm

/-- The masked score: `-∞` where the mask is closed. -/
theorem masked_at (h : Fin 16) (i j : Fin 2048) :
    val_main_v60 (F := Ideal) x0 x1 x2 x3 x4 x5 (ix4 (0 : Fin 1) h i j)
      = if Allowed i.val j.val then ((score q kv h i j : ℝ) : EReal) else ⊥ := by
  rw [val_main_v60_apply, scores_at hq hkv, val_main_call6_v1_apply, val_main_v59_apply, val_main_call6_v2_apply,
    val_main_call6_v0_apply, val_main_cst_12_apply]
  have e : idx_main_v59 (idx_main_call6_v1 (ix4 (0 : Fin 1) h i j)) = ix2 i j := funext fun a => by
    match a with | ⟨0, _⟩ => rfl | ⟨1, _⟩ => rfl
  rw [e, mask_at, Cert.KernelIdeal.Own.select_bit]
  exact if_congr Iff.rfl rfl negInf

/-- The row's maximum is a real. -/
theorem rowMax_at (h : Fin 16) (i : Fin 2048) :
    ∃ M : ℝ, val_main_v63 (F := Ideal) x0 x1 x2 x3 x4 x5 (ix3 (0 : Fin 1) h i) = (M : EReal) := by
  have hr : S1x16x2048x2048.Reduces [3] S1x16x2048 := by decide
  obtain ⟨k₀, hk₀⟩ : ∃ k₀ : Fin (S1x16x2048x2048.size 3), k₀.val = 0 := ⟨⟨0, by decide⟩, rfl⟩
  obtain ⟨M, hM⟩ := max_real Finset.univ (val_main_v60 (F := Ideal) x0 x1 x2 x3 x4 x5 ∘ hr.lift (ix3 (0 : Fin 1) h i))
    (fun k => by
      obtain ⟨h', i', j', en, -⟩ := at_rank4 (hr.lift (ix3 (0 : Fin 1) h i) k)
      rw [Function.comp_apply, en, masked_at hq hkv]
      split
      · exact EReal.coe_ne_top _
      · exact bot_ne_top)
    k₀ (Finset.mem_univ _) (by
      obtain ⟨h', i', j', en, ej⟩ := at_rank4 (hr.lift (ix3 (0 : Fin 1) h i) k₀)
      have e0 : j'.val = 0 := ej.trans (by rw [Shape.Reduces.lift_val]; simp [Shape.Reduces.liftVal, hk₀])
      rw [Function.comp_apply, en, masked_at hq hkv, if_pos (show Allowed i'.val j'.val from Or.inr (by rw [e0]))]
      exact EReal.coe_ne_bot _)
  refine ⟨M, ?_⟩
  rw [val_main_v63_apply, val_main_v62_apply, val_main_cst_14_apply]
  have e61 : val_main_v61 (F := Ideal) x0 x1 x2 x3 x4 x5 (ix3 (0 : Fin 1) h i) = (M : EReal) := by
    unfold val_main_v61
    rw [Host.reduce_eq_fold_single _ _ _ _ hr, ← hM, ← negInf]
    rfl
  rw [e61]
  show max (Ideal.ofBits .f32 0xFF800000#32) (M : EReal) = M
  rw [negInf]
  exact max_eq_right bot_le

/-! ## The softmax and the output -/

/-- The attention's output. -/
theorem attention_at (h : Fin 16) (i : Fin 2048) (d : Fin 64) :
    val_main_v72 (F := Ideal) x0 x1 x2 x3 x4 x5 (ix4 (0 : Fin 1) h i d) = ((head q kv h i d : ℝ) : EReal) := by
  obtain ⟨M, hM⟩ := rowMax_at hq hkv h i
  have ew : ∀ j : Fin 2048, val_main_v67 (F := Ideal) x0 x1 x2 x3 x4 x5 (ix4 (0 : Fin 1) h i j)
      = Ideal.exp ((if Allowed i.val j.val then ((score q kv h i j : ℝ) : EReal) else ⊥) - (M : EReal)) := fun j => by
    rw [val_main_v67_apply, val_main_v66_apply, masked_at hq hkv, val_main_v65_apply, val_main_v64_apply]
    have e : idx_main_v64 (idx_main_v65 (ix4 (0 : Fin 1) h i j)) = ix3 (0 : Fin 1) h i := funext fun a => by
      match a with | ⟨0, _⟩ => rfl | ⟨1, _⟩ => rfl | ⟨2, _⟩ => rfl
    rw [e, hM]
    rfl
  have ed : ∀ j : Fin 2048, val_main_v70 (F := Ideal) x0 x1 x2 x3 x4 x5 (ix4 (0 : Fin 1) h i j)
      = 0 + ∑ k : Fin 2048, Ideal.exp ((if Allowed i.val k.val then ((score q kv h i k : ℝ) : EReal) else ⊥) - (M : EReal)) := fun j => by
    rw [val_main_v70_apply, val_main_v69_apply, val_main_v68_apply, val_main_cst_15_apply]
    have e : ∀ k : Fin 2048, idx_main_v68 (idx_main_v69 (idx_main_v70 (ix4 (0 : Fin 1) h i j))) k = ix4 (0 : Fin 1) h i k := fun k =>
      funext fun a => by match a with | ⟨0, _⟩ => rfl | ⟨1, _⟩ => rfl | ⟨2, _⟩ => rfl | ⟨3, _⟩ => rfl
    simp only [e, ew]
    exact congrArg (· + _) zeroWord
  rw [val_main_v72_apply]
  have el : ∀ k : Fin 2048, lidx_main_v72 (ix4 (0 : Fin 1) h i d) k = ix4 (0 : Fin 1) h i k := fun k => funext fun a => by
    match a with | ⟨0, _⟩ => rfl | ⟨1, _⟩ => rfl | ⟨2, _⟩ => rfl | ⟨3, _⟩ => rfl
  have er : ∀ k : Fin 2048, ridx_main_v72 (ix4 (0 : Fin 1) h i d) k = ix4 (0 : Fin 1) h k d := fun k => funext fun a => by
    match a with | ⟨0, _⟩ => rfl | ⟨1, _⟩ => rfl | ⟨2, _⟩ => rfl | ⟨3, _⟩ => rfl
  simp only [el, er, val_main_v71_apply, ew, ed, headValues_at, hkv]
  exact softmax_eq (fun j => Allowed i.val j.val) (fun j => score q kv h i j) (fun j => kv j (vCol h d)) M ⟨0, Or.inr rfl⟩

/-- An element of the result. -/
theorem result_at (i : Fin 2048) (n : Fin 1024) :
    val_main_v78 (F := Ideal) x0 x1 x2 x3 x4 x5 x6 x7 (ix3 (0 : Fin 1) i n)
      = (∑ k : Fin 1024, ((head q kv ⟨k.val / 64, by omega⟩ i ⟨k.val % 64, Nat.mod_lt _ (by omega)⟩ : ℝ) : EReal) * x6 (ix2 k n)) + x7 (ix1 n) := by
  rw [val_main_v78_apply, val_main_v75_apply, val_main_v77_apply, val_main_v76_apply]
  have eb : idx_main_v76 (idx_main_v77 (ix3 (0 : Fin 1) i n)) = ix1 n := funext fun a => by match a with | ⟨0, _⟩ => rfl
  have er : ∀ k : Fin 1024, ridx_main_v75 (ix3 (0 : Fin 1) i n) k = ix2 k n := fun k => funext fun a => by
    match a with | ⟨0, _⟩ => rfl | ⟨1, _⟩ => rfl
  have el : ∀ k : Fin 1024, val_main_v74 (F := Ideal) x0 x1 x2 x3 x4 x5 (lidx_main_v75 (ix3 (0 : Fin 1) i n) k)
      = ((head q kv ⟨k.val / 64, by omega⟩ i ⟨k.val % 64, Nat.mod_lt _ (by omega)⟩ : ℝ) : EReal) := fun k => by
    rw [val_main_v74_apply, val_main_v73_apply, ← attention_at hq hkv]
    refine congrArg _ (funext fun a => ?_)
    match a with
    | ⟨0, _⟩ => rfl
    | ⟨1, _⟩ => exact Fin.ext (by show ((0 * 2048 + i.val) * 1024 + k.val) / 64 % 16 = k.val / 64; omega)
    | ⟨2, _⟩ => exact Fin.ext (by show ((0 * 2048 + i.val) * 1024 + k.val) / 1024 % 2048 = i.val; omega)
    | ⟨3, _⟩ => exact Fin.ext (by show ((0 * 2048 + i.val) * 1024 + k.val) % 64 = k.val % 64; omega)
  simp only [el, er, eb]
  rfl

end Cert.ReferenceIdeal.Own

end
-- ==== Proof.Pre.lean ====
/- The precondition read back: every element of the arrays that the queries, the keys and the values are made of is a real. -/
module

public import proofs.«01_k».proof.Pre_finite_inputs
public import Idealize.ShloMosaic.Lib.ReduceAll
public import Idealize.ShloMosaic.Lib.ValueIdx
public import Idealize.ShloMosaic.Lib.Decide

@[expose] public section

noncomputable section

namespace Cert.Pre_finite_inputs

open Idealize.ShloMosaic

/-- The predicate's side conditions. -/
instance facts : Cert.Pre_finite_inputs.Facts where
  bcast_S_S1x2048x1024 := by decide
  reducesTo_S1x2048x1024_S_d0_1_2 := by decide
  h_S_ := by decide
  bcast_S_S1024x1024 := by decide
  reducesTo_S1024x1024_S_d0_1 := by decide
  bcast_S_S1024 := by decide
  reducesTo_S1024_S_d0 := by decide
  bcast_S_S1024x2048 := by decide
  reducesTo_S1024x2048_S_d0_1 := by decide
  bcast_S_S2048 := by decide
  reducesTo_S2048_S_d0 := by decide

/-- A scalar has one index. -/
instance : Subsingleton S_.Idx := ⟨fun a b => funext fun k => k.elim0⟩

/-- An extended real whose magnitude is below `+∞` is a real. -/
theorem real_of_abs_lt (x : Ideal .f32)
    (h : FloatOps.cmpf (F := Ideal) .olt (FloatOps.hostAbsf (F := Ideal) x) (FloatOps.ofBits (F := Ideal) .f32 0x7F800000#32) = 1#1) :
    ∃ r : ℝ, x = (r : EReal) := by
  have top : Ideal.ofBits .f32 0x7F800000#32 = ⊤ := by simp [Ideal.ofBits, Ideal.ieee]
  have h : BitVec.ofBool (decide (max (x : EReal) (-(x : EReal)) < Ideal.ofBits .f32 0x7F800000#32)) = 1#1 := h
  rw [top] at h
  have hlt : max (x : EReal) (-(x : EReal)) < ⊤ := by
    by_contra hn
    rw [decide_eq_false hn] at h
    exact absurd h (by decide)
  have h1 : (x : EReal) ≠ ⊤ := fun e => by rw [e] at hlt; exact absurd hlt (by simp)
  have h2 : (x : EReal) ≠ ⊥ := fun e => by rw [e] at hlt; exact absurd hlt (by simp)
  exact ⟨EReal.toReal x, (EReal.coe_toReal h1 h2).symm⟩

/-- Where every element's magnitude is below `+∞`, every element is a real. -/
theorem real_of_all {s : Shape} {axes : List (Fin s.rank)} (x : FVec Ideal s .f32) (hb : S_.BroadcastsInDim s (![] : Fin 0 → Fin s.rank))
    (hr : s.ReducesTo axes S_) (hu : 0 < S_.numel) (j : S_.Idx)
    (e : Host.reduce IntOp.andi (cmpf .olt (Host.absf x) (broadcastInDim s ![] hb (constant S_ .f32 0x7F800000#32))) (constantI S_ 1 1#1) hr hu j = 1#1)
    (i : s.Idx) : ∃ r : ℝ, x i = (r : EReal) :=
  real_of_abs_lt (x i) (Host.reduce_andi_all _ _ hr hu j e i)

/-- A conjunction that holds everywhere has both sides holding everywhere. -/
theorem and_split {s : Shape} {x y : IVec s 1} (h : andi x y = fun _ => 1#1) : (x = fun _ => 1#1) ∧ (y = fun _ => 1#1) :=
  ⟨funext fun i => (IntOp.andi_eq_one.1 (congrFun h i)).1, funext fun i => (IntOp.andi_eq_one.1 (congrFun h i)).2⟩

/-- The precondition makes every element of the six arrays a real. -/
theorem reals (x0 x1 : FVec Ideal S1x2048x1024 .f32) (x2 : FVec Ideal S1024x1024 .f32) (x3 : FVec Ideal S1024 .f32)
    (x4 : FVec Ideal S1024x2048 .f32) (x5 : FVec Ideal S2048 .f32) (x6 : FVec Ideal S1024x1024 .f32) (x7 : FVec Ideal S1024 .f32)
    (h : fn (F := Ideal) x0 x1 x2 x3 x4 x5 x6 x7 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x4 i = (r : EReal)) ∧ (∀ i, ∃ r : ℝ, x5 i = (r : EReal)) := by
  have h := h
  unfold fn fn_part1 at h
  obtain ⟨h, h5⟩ := and_split h
  obtain ⟨h, h4⟩ := and_split h
  obtain ⟨h, h3⟩ := and_split h
  obtain ⟨h, h2⟩ := and_split h
  obtain ⟨h0, h1⟩ := and_split h
  have j : S_.Idx := fun a => a.elim0
  exact ⟨real_of_all x0 _ _ _ j (congrFun h0 j), real_of_all x1 _ _ _ j (congrFun h1 j), real_of_all x2 _ _ _ j (congrFun h2 j),
    real_of_all x3 _ _ _ j (congrFun h3 j), real_of_all x4 _ _ _ j (congrFun h4 j), real_of_all x5 _ _ _ j (congrFun h5 j)⟩

end Cert.Pre_finite_inputs

end
-- ==== Proof.Equal.lean ====
/- The kernel and the reference return the same array where the projected arguments are reals. -/
module

public import proofs.«01_k».proof.Defs
public import proofs.«01_k».proof.Proof.KernelIdealRun
public import proofs.«01_k».proof.Proof.ReferenceValue
public import proofs.«01_k».proof.Proof.Pre
public import Idealize.ShloMosaic.Lib.Quiescent

@[expose] public section

noncomputable section

namespace Cert.Equal

open Idealize.ShloMosaic Idealize.SL.Sem
open Cert.Attention
open Cert.KernelIdeal.Own Cert.ReferenceIdeal.Own

/-- A product of real matrices with a real row added is a real, element by element. -/
theorem projected {ι κ ν : Type} [Fintype κ] (x : ι → κ → EReal) (w : κ → ν → EReal) (b : ν → EReal)
    (hx : ∀ i k, ∃ r : ℝ, x i k = r) (hw : ∀ k n, ∃ r : ℝ, w k n = r) (hb : ∀ n, ∃ r : ℝ, b n = r) :
    ∃ p : ι → ν → ℝ, ∀ i n, (∑ k, x i k * w k n) + b n = ((p i n : ℝ) : EReal) := by
  choose x' hx' using hx
  choose w' hw' using hw
  choose b' hb' using hb
  refine ⟨fun i n => (∑ k, x' i k * w' k n) + b' n, fun i n => ?_⟩
  simp only [hx', hw', hb']
  rw [dot_coe]
  exact (EReal.coe_add _ _).symm

/-- The row a block's row is. -/
theorem qRow_block (i : Fin 2048) : qRow ⟨i.val / 256, by omega⟩ ⟨i.val % 256, Nat.mod_lt _ (by omega)⟩ = i :=
  Fin.ext (by show i.val / 256 * 256 + i.val % 256 = i.val; omega)

section
variable (m : (ℓ : Loc Cert.KernelIdeal.nD Cert.KernelIdeal.τ Cert.KernelIdeal.sig) → Buf (Elt Ideal) ℓ) (c : Dev Cert.KernelIdeal.nD)

/-- What the kernel returns, element by element, where the projections are reals. -/
theorem kernel_at {q : Fin 2048 → Fin 1024 → ℝ} {kv : Fin 2048 → Fin 2048 → ℝ}
    (hq : ∀ i n, qOf m c i n = ((q i n : ℝ) : EReal)) (hkv : ∀ j n, kvOf m c j n = ((kv j n : ℝ) : EReal)) (i : Fin 2048) (n : Fin 1024) :
    returned m c (ix3 (0 : Fin 1) i n)
      = (∑ k : Fin 1024, ((head q kv ⟨k.val / 64, by omega⟩ i ⟨k.val % 64, Nat.mod_lt _ (by omega)⟩ : ℝ) : EReal)
          * m ((c.tc : Thread Cert.KernelIdeal.nD Cert.KernelIdeal.τ).loc Cert.KernelIdeal.main_arg6) (ix2 k n))
        + m ((c.tc : Thread Cert.KernelIdeal.nD Cert.KernelIdeal.τ).loc Cert.KernelIdeal.main_arg7) (ix1 n) := by
  have eq : qOf m c = fun i n => ((q i n : ℝ) : EReal) := funext fun i => funext fun n => hq i n
  have ekv : kvOf m c = fun j n => ((kv j n : ℝ) : EReal) := funext fun j => funext fun n => hkv j n
  rw [returned_apply]
  show outputOf (qOf m c) (kvOf m c) (fun k n => woOf m c (ix2 k n)) (fun n => boOf m c (ix2 0 n))
    ⟨i.val / 256, by omega⟩ ⟨i.val % 256, Nat.mod_lt _ (by omega)⟩ n = _
  rw [eq, ekv]
  unfold outputOf
  simp only [kernelHead_eq, qRow_block, woOf_eq, boOf_apply]

end

/-- The two programs, started on the same finite arguments, return the same array. -/
theorem algebraic : Cert.algebraic_KernelIdeal_ReferenceIdeal_pre_finite_inputs (hKernelIdeal := Cert.KernelIdeal.Gen.facts)
    (hReferenceIdeal := Cert.ReferenceIdeal.Gen.facts) (hPre_finite_inputs := Cert.Pre_finite_inputs.facts) := by
  intro m g m' g' hpre hm
  refine ⟨fun c => returned m c, (θ_run _ _ _).mono (fun r h => h.1) (run_value m g), (θ_run _ _ _).mono (fun r h c => ⟨?_, (h c).2⟩)
    (Cert.ReferenceIdeal.Value.run (F := Ideal) m' g')⟩
  refine ((h c).1.trans (Cert.ReferenceIdeal.Read.val_main_v78_eq (StableHlo.launchContents m' c))).trans ?_
  obtain ⟨e0, e1, e2, e3, e4, e5, e6, e7⟩ := hm c
  rw [show StableHlo.launchContents m' c (Proc.devRef .tc Cert.ReferenceIdeal.main_arg0) = _ from e0,
    show StableHlo.launchContents m' c (Proc.devRef .tc Cert.ReferenceIdeal.main_arg1) = _ from e1,
    show StableHlo.launchContents m' c (Proc.devRef .tc Cert.ReferenceIdeal.main_arg2) = _ from e2,
    show StableHlo.launchContents m' c (Proc.devRef .tc Cert.ReferenceIdeal.main_arg3) = _ from e3,
    show StableHlo.launchContents m' c (Proc.devRef .tc Cert.ReferenceIdeal.main_arg4) = _ from e4,
    show StableHlo.launchContents m' c (Proc.devRef .tc Cert.ReferenceIdeal.main_arg5) = _ from e5,
    show StableHlo.launchContents m' c (Proc.devRef .tc Cert.ReferenceIdeal.main_arg6) = _ from e6,
    show StableHlo.launchContents m' c (Proc.devRef .tc Cert.ReferenceIdeal.main_arg7) = _ from e7]
  obtain ⟨r0, r1, r2, r3, r4, r5⟩ := Cert.Pre_finite_inputs.reals _ _ _ _ _ _ _ _ (hpre c)
  obtain ⟨q, hq⟩ := projected (fun i k => m ((c.tc : Thread Cert.KernelIdeal.nD Cert.KernelIdeal.τ).loc Cert.KernelIdeal.main_arg0) (ix3 (0 : Fin 1) i k))
    (fun k n => m ((c.tc : Thread Cert.KernelIdeal.nD Cert.KernelIdeal.τ).loc Cert.KernelIdeal.main_arg2) (ix2 k n))
    (fun n => m ((c.tc : Thread Cert.KernelIdeal.nD Cert.KernelIdeal.τ).loc Cert.KernelIdeal.main_arg3) (ix1 n))
    (fun i k => r0 _) (fun k n => r2 _) (fun n => r3 _)
  obtain ⟨kv, hkv⟩ := projected (fun j k => m ((c.tc : Thread Cert.KernelIdeal.nD Cert.KernelIdeal.τ).loc Cert.KernelIdeal.main_arg1) (ix3 (0 : Fin 1) j k))
    (fun k n => m ((c.tc : Thread Cert.KernelIdeal.nD Cert.KernelIdeal.τ).loc Cert.KernelIdeal.main_arg4) (ix2 k n))
    (fun n => m ((c.tc : Thread Cert.KernelIdeal.nD Cert.KernelIdeal.τ).loc Cert.KernelIdeal.main_arg5) (ix1 n))
    (fun j k => r1 _) (fun k n => r4 _) (fun n => r5 _)
  have kq : ∀ i n, qOf m c i n = ((q i n : ℝ) : EReal) := fun i n => by
    unfold qOf
    simp only [xOf_apply, wqOf_eq, bqOf_apply]
    exact hq i n
  have kkv : ∀ j n, kvOf m c j n = ((kv j n : ℝ) : EReal) := fun j n => by
    unfold kvOf
    simp only [yOf_apply, wkvOf_eq, bkvOf_apply]
    exact hkv j n
  funext y
  obtain ⟨i, n, ey⟩ : ∃ (i : Fin 2048) (n : Fin 1024), y = ix3 (0 : Fin 1) i n := ⟨y 1, y 2, funext fun a => by
    match a with | ⟨0, _⟩ => exact Subsingleton.elim (α := Fin 1) _ _ | ⟨1, _⟩ => rfl | ⟨2, _⟩ => rfl⟩
  rw [ey]
  exact (result_at _ _ (fun i n => (queries_at _ _ _ i n).trans (hq i n)) (fun j n => (keys_at _ _ _ j n).trans (hkv j n)) i n).trans
    (kernel_at m c kq kkv i n).symm

end Cert.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.ReferenceIdeal.Run
public import proofs.«01_k».proof.Proof.Gen.ReferenceIdeal.Read
public import proofs.«01_k».proof.Proof.KernelFrame
public import proofs.«01_k».proof.Proof.Equal
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The reference's frame: it ends with its arguments as they were and every semaphore counter at zero. -/
theorem referenceFrame : Cert.quiescent_ReferenceIdeal (hReferenceIdeal := Cert.ReferenceIdeal.Gen.facts) :=
  fun m ρ _ => (θ_run _ _ _).mono (fun r h => ⟨fun c => (h c).2, sem_eq_zero_of_no_sems (by decide) r.2⟩)
    (Cert.ReferenceIdeal.Value.run (F := Ideal) m ρ)

/-- Every claim of this certificate. -/
theorem claim : Cert.Claim := ⟨Cert.Kernel.Gen.facts, Cert.KernelIdeal.Gen.facts, Cert.ReferenceIdeal.Gen.facts, Cert.Pre_finite_inputs.facts,
  Cert.Kernel.Own.frame,
  Cert.KernelIdeal.Own.frame, fun m g _ => Cert.KernelIdeal.Own.frame m g trivial,
  referenceFrame, fun m g _ => referenceFrame m g trivial,
  IdealRules.named_const.statement Cert.KernelIdeal.κ "neg" .f32 0xCE6E6B28#32 ⊥ rfl,
  Cert.Equal.algebraic⟩

end Cert.Proof

end
